-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_has_mass [hPre_row_has_mass : Cert.Pre_row_has_mass.Facts] (m : (ℓ : Loc Cert.KernelIdeal.nD Cert.KernelIdeal.τ Cert.KernelIdeal.sig) → Buf (Elt Ideal) ℓ) : Prop :=
  ∀ c : Dev Cert.KernelIdeal.nD,
    (Cert.Pre_row_has_mass.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_has_mass [hPre_row_has_mass : Cert.Pre_row_has_mass.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_has_mass.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_row_has_mass [hKernelIdeal : Cert.KernelIdeal.Facts] [hPre_row_has_mass : Cert.Pre_row_has_mass.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_has_mass m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_row_has_mass [hReferenceIdeal : Cert.ReferenceIdeal.Facts] [hPre_row_has_mass : Cert.Pre_row_has_mass.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_has_mass m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_row_has_mass [hKernelIdeal : Cert.KernelIdeal.Facts] [hReferenceIdeal : Cert.ReferenceIdeal.Facts] [hPre_row_has_mass : Cert.Pre_row_has_mass.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_has_mass m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_row_has_mass : Cert.Pre_row_has_mass.Facts),
    quiescent_Kernel (hKernel := hKernel)
    ∧ quiescent_KernelIdeal (hKernelIdeal := hKernelIdeal)
    ∧ quiescent_KernelIdeal_pre_row_has_mass (hKernelIdeal := hKernelIdeal) (hPre_row_has_mass := hPre_row_has_mass)
    ∧ quiescent_ReferenceIdeal (hReferenceIdeal := hReferenceIdeal)
    ∧ quiescent_ReferenceIdeal_pre_row_has_mass (hReferenceIdeal := hReferenceIdeal) (hPre_row_has_mass := hPre_row_has_mass)
    ∧ preserves_Kernel_KernelIdeal
    ∧ algebraic_KernelIdeal_ReferenceIdeal_pre_row_has_mass (hKernelIdeal := hKernelIdeal) (hReferenceIdeal := hReferenceIdeal) (hPre_row_has_mass := hPre_row_has_mass)
-- ==== Pre_row_has_mass.lean ====
abbrev S128x100000 : Shape := ⟨2, ![128, 100000]⟩
abbrev S_ : Shape := ⟨0, ![]⟩
abbrev S128 : Shape := ⟨1, ![128]⟩

class Facts : Prop where
  bcast_S_S128x100000 : S_.BroadcastsInDim S128x100000 (![] : Fin 0 → Fin S128x100000.rank)
  reducesTo_S128x100000_S128_d1 : S128x100000.ReducesTo [1] S128
  h_S_ : 0 < S_.numel
  reducesTo_S128_S_d0 : S128.ReducesTo [0] S_

variable [Facts]

def fn {F : FTy → Type} [FloatOps F] (main_arg0 : FVec F S128x100000 .f32) : IVec S_ 1 :=
  let main_cst : FVec F S_ .f32 := constant S_ .f32 0xFF800000#32
  let main_v0 : FVec F S128x100000 .f32 := broadcastInDim S128x100000 ![] bcast_S_S128x100000 main_cst
  let main_v1 : IVec S128x100000 1 := cmpf .ogt main_arg0 main_v0
  let main_c : IVec S_ 1 := constantI S_ 1 0#1
  let main_v2 : IVec S128 1 := (fun x v => Host.reduce IntOp.ori x v reducesTo_S128x100000_S128_d1 h_S_) main_v1 main_c
  let main_c_0 : IVec S_ 1 := constantI S_ 1 1#1
  let main_v3 : IVec S_ 1 := (fun x v => Host.reduce IntOp.andi x v reducesTo_S128_S_d0 h_S_) main_v2 main_c_0
  main_v3
-- ==== Kernel.lean ====
abbrev S128x100000 : Shape := ⟨2, ![128, 100000]⟩
abbrev S128x1 : Shape := ⟨2, ![128, 1]⟩
abbrev S128 : Shape := ⟨1, ![128]⟩
abbrev S128x4096 : Shape := ⟨2, ![128, 4096]⟩
abbrev S8x512 : Shape := ⟨2, ![8, 512]⟩

abbrev nBuf : Space → Nat
  | .hbm => 3
  | .vmem => 5
  | .smem => 0
  | _ => 0

abbrev bufTy : (tb : Table) → Fin (tcTables nBuf tb) → BufTy
  | .hbm, ⟨0, _⟩ => ⟨S128x100000, .f32⟩
  | .hbm, ⟨1, _⟩ => ⟨S128x1, .i32⟩
  | .hbm, ⟨2, _⟩ => ⟨S128, .i32⟩
  | .local _ .vmem, ⟨0, _⟩ => ⟨S128x4096, .f32⟩
  | .local _ .vmem, ⟨1, _⟩ => ⟨S128x4096, .f32⟩
  | .local _ .vmem, ⟨2, _⟩ => ⟨S128x1, .i32⟩
  | .local _ .vmem, ⟨3, _⟩ => ⟨S128x4096, .f32⟩
  | .local _ .vmem, ⟨4, _⟩ => ⟨S128x4096, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![25], ![false]⟩

def k0_off1 (c0_i32_1 : BitVec 32) (c0_i32_2 : BitVec 32) : Fin 2 → Nat :=
  let c8_i32 : BitVec 32 := 8#32
  let v10 : BitVec 32 := Scalar.muli c0_i32_1 c8_i32
  let v191 : Index := Scalar.indexCast v10
  let c512_i32 : BitVec 32 := 512#32
  let v11 : BitVec 32 := Scalar.muli c0_i32_2 c512_i32
  let v192 : Index := Scalar.indexCast v11
  ![v191.toNat, v192.toNat]
def k0_cond2 (i : grid0.Coords) : BitVec 1 :=
  let arg0 : BitVec 32 := BitVec.ofNat 32 (i 0).val
  let c24_i32_7941 : BitVec 32 := 24#32
  let v27146 : BitVec 1 := Scalar.cmpi .eq arg0 c24_i32_7941
  let v27147 : BitVec 32 := Scalar.extui v27146
  let c0_i32_7942 : BitVec 32 := 0#32
  let v27148 : BitVec 1 := Scalar.cmpi .ne v27147 c0_i32_7942
  v27148

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S128 : Shape := ⟨1, ![128]⟩

abbrev nBuf : Space → Nat
  | .hbm => 281
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S128x100000, .i64⟩
  | 16 => ⟨S128x100000, .i64⟩
  | 17 => ⟨S_, .i64⟩
  | 18 => ⟨S128x100000, .i64⟩
  | 19 => ⟨S128x100000, .i64⟩
  | 20 => ⟨S_, .i64⟩
  | 21 => ⟨S128x100000, .i64⟩
  | 22 => ⟨S128x100000, .i64⟩
  | 23 => ⟨S128x100000, .i64⟩
  | 24 => ⟨S_, .i64⟩
  | 25 => ⟨S128x100000, .i64⟩
  | 26 => ⟨S128x100000, .i64⟩
  | 27 => ⟨S128x100000, .i32⟩
  | 28 => ⟨S128x100000, .i32⟩
  | 29 => ⟨S_, .i32⟩
  | 30 => ⟨S_, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S_, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S128x100000, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S128x100000, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x100000, .f32⟩

abbrev hbmTy0_2 (i : Nat) : BufTy := match i % 128 with
  | 0 => ⟨S128x100000, .i32⟩
  | 1 => ⟨S128x100000, .i32⟩
  | 2 => ⟨S128x100000, .f32⟩
  | 3 => ⟨S_, .f32⟩
  | 4 => ⟨S128x100000, .f32⟩
  | 5 => ⟨S128x100000, .f32⟩
  | 6 => ⟨S_, .f32⟩
  | 7 => ⟨S128x100000, .f32⟩
  | 8 => ⟨S128x100000, .f32⟩
  | 9 => ⟨S_, .f32⟩
  | 10 => ⟨S128x100000, .f32⟩
  | 11 => ⟨S128x100000, .f32⟩
  | 12 => ⟨S_, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S128x100000, .f32⟩
  | 20 => ⟨S128x100000, .i32⟩
  | 21 => ⟨S_, .f32⟩
  | 22 => ⟨S_, .i32⟩
  | 23 => ⟨S128, .f32⟩
  | 24 => ⟨S128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_c_0 : Ref sig .tc := ⟨.hbm, 37, rfl⟩
abbrev main_call0_v7 : Ref sig .tc := ⟨.hbm, 38, rfl⟩
abbrev main_call0_v8 : Ref sig .tc := ⟨.hbm, 39, rfl⟩
abbrev main_call0_c_1 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_c_2 : Ref sig .tc := ⟨.hbm, 46, rfl⟩
abbrev main_call0_v14 : Ref sig .tc := ⟨.hbm, 47, rfl⟩
abbrev main_call0_v15 : Ref sig .tc := ⟨.hbm, 48, rfl⟩
abbrev main_call0_c_3 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_v19 : Ref sig .tc := ⟨.hbm, 53, rfl⟩
abbrev main_call0_v20 : Ref sig .tc := ⟨.hbm, 54, rfl⟩
abbrev main_call0_c_4 : Ref sig .tc := ⟨.hbm, 55, rfl⟩
abbrev main_call0_v21 : Ref sig .tc := ⟨.hbm, 56, rfl⟩
abbrev main_call0_v22 : Ref sig .tc := ⟨.hbm, 57, rfl⟩
abbrev main_call0_c_5 : Ref sig .tc := ⟨.hbm, 58, rfl⟩
abbrev main_call0_v23 : Ref sig .tc := ⟨.hbm, 59, rfl⟩
abbrev main_call0_v24 : Ref sig .tc := ⟨.hbm, 60, rfl⟩
abbrev main_call0_v25 : Ref sig .tc := ⟨.hbm, 61, rfl⟩
abbrev main_call0_v26 : Ref sig .tc := ⟨.hbm, 62, rfl⟩
abbrev main_call0_v27 : Ref sig .tc := ⟨.hbm, 63, rfl⟩
abbrev main_call0_c_6 : Ref sig .tc := ⟨.hbm, 64, rfl⟩
abbrev main_call0_v28 : Ref sig .tc := ⟨.hbm, 65, rfl⟩
abbrev main_call0_v29 : Ref sig .tc := ⟨.hbm, 66, rfl⟩
abbrev main_call0_c_7 : Ref sig .tc := ⟨.hbm, 67, rfl⟩
abbrev main_call0_v30 : Ref sig .tc := ⟨.hbm, 68, rfl⟩
abbrev main_call0_v31 : Ref sig .tc := ⟨.hbm, 69, rfl⟩
abbrev main_call0_v32 : Ref sig .tc := ⟨.hbm, 70, rfl⟩
abbrev main_call0_v33 : Ref sig .tc := ⟨.hbm, 71, rfl⟩
abbrev main_call0_v34 : Ref sig .tc := ⟨.hbm, 72, rfl⟩
abbrev main_call0_v35 : Ref sig .tc := ⟨.hbm, 73, rfl⟩
abbrev main_call0_v36 : Ref sig .tc := ⟨.hbm, 74, rfl⟩
abbrev main_call0_v37 : Ref sig .tc := ⟨.hbm, 75, rfl⟩
abbrev main_call0_c_8 : Ref sig .tc := ⟨.hbm, 76, rfl⟩
abbrev main_call0_v38 : Ref sig .tc := ⟨.hbm, 77, rfl⟩
abbrev main_call0_v39 : Ref sig .tc := ⟨.hbm, 78, rfl⟩
abbrev main_call0_v40 : Ref sig .tc := ⟨.hbm, 79, rfl⟩
abbrev main_call0_c_9 : Ref sig .tc := ⟨.hbm, 80, rfl⟩
abbrev main_call0_v41 : Ref sig .tc := ⟨.hbm, 81, rfl⟩
abbrev main_call0_v42 : Ref sig .tc := ⟨.hbm, 82, rfl⟩
abbrev main_call0_c_10 : Ref sig .tc := ⟨.hbm, 83, rfl⟩
abbrev main_call0_v43 : Ref sig .tc := ⟨.hbm, 84, rfl⟩
abbrev main_call0_v44 : Ref sig .tc := ⟨.hbm, 85, rfl⟩
abbrev main_call0_v45 : Ref sig .tc := ⟨.hbm, 86, rfl⟩
abbrev main_call0_v46 : Ref sig .tc := ⟨.hbm, 87, rfl⟩
abbrev main_call0_v47 : Ref sig .tc := ⟨.hbm, 88, rfl⟩
abbrev main_call0_c_11 : Ref sig .tc := ⟨.hbm, 89, rfl⟩
abbrev main_call0_v48 : Ref sig .tc := ⟨.hbm, 90, rfl⟩
abbrev main_call0_v49 : Ref sig .tc := ⟨.hbm, 91, rfl⟩
abbrev main_call0_c_12 : Ref sig .tc := ⟨.hbm, 92, rfl⟩
abbrev main_call0_v50 : Ref sig .tc := ⟨.hbm, 93, rfl⟩
abbrev main_call0_v51 : Ref sig .tc := ⟨.hbm, 94, rfl⟩
abbrev main_call0_v52 : Ref sig .tc := ⟨.hbm, 95, rfl⟩
abbrev main_call0_v53 : Ref sig .tc := ⟨.hbm, 96, rfl⟩
abbrev main_call0_v54 : Ref sig .tc := ⟨.hbm, 97, rfl⟩
abbrev main_call0_c_13 : Ref sig .tc := ⟨.hbm, 98, rfl⟩
abbrev main_call0_v55 : Ref sig .tc := ⟨.hbm, 99, rfl⟩
abbrev main_call0_v56 : Ref sig .tc := ⟨.hbm, 100, rfl⟩
abbrev main_call0_c_14 : Ref sig .tc := ⟨.hbm, 101, rfl⟩
abbrev main_call0_v57 : Ref sig .tc := ⟨.hbm, 102, rfl⟩
abbrev main_call0_v58 : Ref sig .tc := ⟨.hbm, 103, rfl⟩
abbrev main_call0_v59 : Ref sig .tc := ⟨.hbm, 104, rfl⟩
abbrev main_call0_v60 : Ref sig .tc := ⟨.hbm, 105, rfl⟩
abbrev main_call0_v61 : Ref sig .tc := ⟨.hbm, 106, rfl⟩
abbrev main_call0_c_15 : Ref sig .tc := ⟨.hbm, 107, rfl⟩
abbrev main_call0_v62 : Ref sig .tc := ⟨.hbm, 108, rfl⟩
abbrev main_call0_v63 : Ref sig .tc := ⟨.hbm, 109, rfl⟩
abbrev main_call0_c_16 : Ref sig .tc := ⟨.hbm, 110, rfl⟩
abbrev main_call0_v64 : Ref sig .tc := ⟨.hbm, 111, rfl⟩
abbrev main_call0_v65 : Ref sig .tc := ⟨.hbm, 112, rfl⟩
abbrev main_call0_v66 : Ref sig .tc := ⟨.hbm, 113, rfl⟩
abbrev main_call0_v67 : Ref sig .tc := ⟨.hbm, 114, rfl⟩
abbrev main_call0_v68 : Ref sig .tc := ⟨.hbm, 115, rfl⟩
abbrev main_call0_v69 : Ref sig .tc := ⟨.hbm, 116, rfl⟩
abbrev main_call0_v70 : Ref sig .tc := ⟨.hbm, 117, rfl⟩
abbrev main_call0_v71 : Ref sig .tc := ⟨.hbm, 118, rfl⟩
abbrev main_call0_c_17 : Ref sig .tc := ⟨.hbm, 119, rfl⟩
abbrev main_call0_v72 : Ref sig .tc := ⟨.hbm, 120, rfl⟩
abbrev main_call0_v73 : Ref sig .tc := ⟨.hbm, 121, rfl⟩
abbrev main_call0_v74 : Ref sig .tc := ⟨.hbm, 122, rfl⟩
abbrev main_call0_c_18 : Ref sig .tc := ⟨.hbm, 123, rfl⟩
abbrev main_call0_v75 : Ref sig .tc := ⟨.hbm, 124, rfl⟩
abbrev main_call0_v76 : Ref sig .tc := ⟨.hbm, 125, rfl⟩
abbrev main_call0_c_19 : Ref sig .tc := ⟨.hbm, 126, rfl⟩
abbrev main_call0_v77 : Ref sig .tc := ⟨.hbm, 127, rfl⟩
abbrev main_call0_v78 : Ref sig .tc := ⟨.hbm, 128, rfl⟩
abbrev main_call0_v79 : Ref sig .tc := ⟨.hbm, 129, rfl⟩
abbrev main_call0_v80 : Ref sig .tc := ⟨.hbm, 130, rfl⟩
abbrev main_call0_v81 : Ref sig .tc := ⟨.hbm, 131, rfl⟩
abbrev main_call0_c_20 : Ref sig .tc := ⟨.hbm, 132, rfl⟩
abbrev main_call0_v82 : Ref sig .tc := ⟨.hbm, 133, rfl⟩
abbrev main_call0_v83 : Ref sig .tc := ⟨.hbm, 134, rfl⟩
abbrev main_call0_c_21 : Ref sig .tc := ⟨.hbm, 135, rfl⟩
abbrev main_call0_v84 : Ref sig .tc := ⟨.hbm, 136, rfl⟩
abbrev main_call0_v85 : Ref sig .tc := ⟨.hbm, 137, rfl⟩
abbrev main_call0_v86 : Ref sig .tc := ⟨.hbm, 138, rfl⟩
abbrev main_call0_v87 : Ref sig .tc := ⟨.hbm, 139, rfl⟩
abbrev main_call0_v88 : Ref sig .tc := ⟨.hbm, 140, rfl⟩
abbrev main_call0_c_22 : Ref sig .tc := ⟨.hbm, 141, rfl⟩
abbrev main_call0_v89 : Ref sig .tc := ⟨.hbm, 142, rfl⟩
abbrev main_call0_v90 : Ref sig .tc := ⟨.hbm, 143, rfl⟩
abbrev main_call0_c_23 : Ref sig .tc := ⟨.hbm, 144, rfl⟩
abbrev main_call0_v91 : Ref sig .tc := ⟨.hbm, 145, rfl⟩
abbrev main_call0_v92 : Ref sig .tc := ⟨.hbm, 146, rfl⟩
abbrev main_call0_v93 : Ref sig .tc := ⟨.hbm, 147, rfl⟩
abbrev main_call0_v94 : Ref sig .tc := ⟨.hbm, 148, rfl⟩
abbrev main_call0_v95 : Ref sig .tc := ⟨.hbm, 149, rfl⟩
abbrev main_call0_c_24 : Ref sig .tc := ⟨.hbm, 150, rfl⟩
abbrev main_call0_v96 : Ref sig .tc := ⟨.hbm, 151, rfl⟩
abbrev main_call0_v97 : Ref sig .tc := ⟨.hbm, 152, rfl⟩
abbrev main_call0_c_25 : Ref sig .tc := ⟨.hbm, 153, rfl⟩
abbrev main_call0_v98 : Ref sig .tc := ⟨.hbm, 154, rfl⟩
abbrev main_call0_v99 : Ref sig .tc := ⟨.hbm, 155, rfl⟩
abbrev main_call0_v100 : Ref sig .tc := ⟨.hbm, 156, rfl⟩
abbrev main_call0_v101 : Ref sig .tc := ⟨.hbm, 157, rfl⟩
abbrev main_call0_v102 : Ref sig .tc := ⟨.hbm, 158, rfl⟩
abbrev main_call0_v103 : Ref sig .tc := ⟨.hbm, 159, rfl⟩
abbrev main_call0_v104 : Ref sig .tc := ⟨.hbm, 160, rfl⟩
abbrev main_call0_v105 : Ref sig .tc := ⟨.hbm, 161, rfl⟩
abbrev main_call0_c_26 : Ref sig .tc := ⟨.hbm, 162, rfl⟩
abbrev main_call0_v106 : Ref sig .tc := ⟨.hbm, 163, rfl⟩
abbrev main_call0_v107 : Ref sig .tc := ⟨.hbm, 164, rfl⟩
abbrev main_call0_v108 : Ref sig .tc := ⟨.hbm, 165, rfl⟩
abbrev main_call0_c_27 : Ref sig .tc := ⟨.hbm, 166, rfl⟩
abbrev main_call0_v109 : Ref sig .tc := ⟨.hbm, 167, rfl⟩
abbrev main_call0_v110 : Ref sig .tc := ⟨.hbm, 168, rfl⟩
abbrev main_call0_c_28 : Ref sig .tc := ⟨.hbm, 169, rfl⟩
abbrev main_call0_v111 : Ref sig .tc := ⟨.hbm, 170, rfl⟩
abbrev main_call0_v112 : Ref sig .tc := ⟨.hbm, 171, rfl⟩
abbrev main_call0_v113 : Ref sig .tc := ⟨.hbm, 172, rfl⟩
abbrev main_call0_v114 : Ref sig .tc := ⟨.hbm, 173, rfl⟩
abbrev main_call0_v115 : Ref sig .tc := ⟨.hbm, 174, rfl⟩
abbrev main_call0_c_29 : Ref sig .tc := ⟨.hbm, 175, rfl⟩
abbrev main_call0_v116 : Ref sig .tc := ⟨.hbm, 176, rfl⟩
abbrev main_call0_v117 : Ref sig .tc := ⟨.hbm, 177, rfl⟩
abbrev main_call0_c_30 : Ref sig .tc := ⟨.hbm, 178, rfl⟩
abbrev main_call0_v118 : Ref sig .tc := ⟨.hbm, 179, rfl⟩
abbrev main_call0_v119 : Ref sig .tc := ⟨.hbm, 180, rfl⟩
abbrev main_call0_v120 : Ref sig .tc := ⟨.hbm, 181, rfl⟩
abbrev main_call0_v121 : Ref sig .tc := ⟨.hbm, 182, rfl⟩
abbrev main_call0_v122 : Ref sig .tc := ⟨.hbm, 183, rfl⟩
abbrev main_call0_c_31 : Ref sig .tc := ⟨.hbm, 184, rfl⟩
abbrev main_call0_v123 : Ref sig .tc := ⟨.hbm, 185, rfl⟩
abbrev main_call0_v124 : Ref sig .tc := ⟨.hbm, 186, rfl⟩
abbrev main_call0_c_32 : Ref sig .tc := ⟨.hbm, 187, rfl⟩
abbrev main_call0_v125 : Ref sig .tc := ⟨.hbm, 188, rfl⟩
abbrev main_call0_v126 : Ref sig .tc := ⟨.hbm, 189, rfl⟩
abbrev main_call0_v127 : Ref sig .tc := ⟨.hbm, 190, rfl⟩
abbrev main_call0_v128 : Ref sig .tc := ⟨.hbm, 191, rfl⟩
abbrev main_call0_v129 : Ref sig .tc := ⟨.hbm, 192, rfl⟩
abbrev main_call0_c_33 : Ref sig .tc := ⟨.hbm, 193, rfl⟩
abbrev main_call0_v130 : Ref sig .tc := ⟨.hbm, 194, rfl⟩
abbrev main_call0_v131 : Ref sig .tc := ⟨.hbm, 195, rfl⟩
abbrev main_call0_c_34 : Ref sig .tc := ⟨.hbm, 196, rfl⟩
abbrev main_call0_v132 : Ref sig .tc := ⟨.hbm, 197, rfl⟩
abbrev main_call0_v133 : Ref sig .tc := ⟨.hbm, 198, rfl⟩
abbrev main_call0_v134 : Ref sig .tc := ⟨.hbm, 199, rfl⟩
abbrev main_call0_v135 : Ref sig .tc := ⟨.hbm, 200, rfl⟩
abbrev main_call0_v136 : Ref sig .tc := ⟨.hbm, 201, rfl⟩
abbrev main_call0_v137 : Ref sig .tc := ⟨.hbm, 202, rfl⟩
abbrev main_call0_v138 : Ref sig .tc := ⟨.hbm, 203, rfl⟩
abbrev main_call0_v139 : Ref sig .tc := ⟨.hbm, 204, rfl⟩
abbrev main_call0_c_35 : Ref sig .tc := ⟨.hbm, 205, rfl⟩
abbrev main_call0_v140 : Ref sig .tc := ⟨.hbm, 206, rfl⟩
abbrev main_call0_v141 : Ref sig .tc := ⟨.hbm, 207, rfl⟩
abbrev main_call0_v142 : Ref sig .tc := ⟨.hbm, 208, rfl⟩
abbrev main_call0_c_36 : Ref sig .tc := ⟨.hbm, 209, rfl⟩
abbrev main_call0_v143 : Ref sig .tc := ⟨.hbm, 210, rfl⟩
abbrev main_call0_v144 : Ref sig .tc := ⟨.hbm, 211, rfl⟩
abbrev main_call0_c_37 : Ref sig .tc := ⟨.hbm, 212, rfl⟩
abbrev main_call0_v145 : Ref sig .tc := ⟨.hbm, 213, rfl⟩
abbrev main_call0_v146 : Ref sig .tc := ⟨.hbm, 214, rfl⟩
abbrev main_call0_v147 : Ref sig .tc := ⟨.hbm, 215, rfl⟩
abbrev main_call0_v148 : Ref sig .tc := ⟨.hbm, 216, rfl⟩
abbrev main_call0_v149 : Ref sig .tc := ⟨.hbm, 217, rfl⟩
abbrev main_call0_c_38 : Ref sig .tc := ⟨.hbm, 218, rfl⟩
abbrev main_call0_v150 : Ref sig .tc := ⟨.hbm, 219, rfl⟩
abbrev main_call0_v151 : Ref sig .tc := ⟨.hbm, 220, rfl⟩
abbrev main_call0_c_39 : Ref sig .tc := ⟨.hbm, 221, rfl⟩
abbrev main_call0_v152 : Ref sig .tc := ⟨.hbm, 222, rfl⟩
abbrev main_call0_v153 : Ref sig .tc := ⟨.hbm, 223, rfl⟩
abbrev main_call0_v154 : Ref sig .tc := ⟨.hbm, 224, rfl⟩
abbrev main_call0_v155 : Ref sig .tc := ⟨.hbm, 225, rfl⟩
abbrev main_call0_v156 : Ref sig .tc := ⟨.hbm, 226, rfl⟩
abbrev main_call0_c_40 : Ref sig .tc := ⟨.hbm, 227, rfl⟩
abbrev main_call0_v157 : Ref sig .tc := ⟨.hbm, 228, rfl⟩
abbrev main_call0_v158 : Ref sig .tc := ⟨.hbm, 229, rfl⟩
abbrev main_call0_c_41 : Ref sig .tc := ⟨.hbm, 230, rfl⟩
abbrev main_call0_v159 : Ref sig .tc := ⟨.hbm, 231, rfl⟩
abbrev main_call0_v160 : Ref sig .tc := ⟨.hbm, 232, rfl⟩
abbrev main_call0_v161 : Ref sig .tc := ⟨.hbm, 233, rfl⟩
abbrev main_call0_v162 : Ref sig .tc := ⟨.hbm, 234, rfl⟩
abbrev main_call0_v163 : Ref sig .tc := ⟨.hbm, 235, rfl⟩
abbrev main_call0_c_42 : Ref sig .tc := ⟨.hbm, 236, rfl⟩
abbrev main_call0_v164 : Ref sig .tc := ⟨.hbm, 237, rfl⟩
abbrev main_call0_v165 : Ref sig .tc := ⟨.hbm, 238, rfl⟩
abbrev main_call0_c_43 : Ref sig .tc := ⟨.hbm, 239, rfl⟩
abbrev main_call0_v166 : Ref sig .tc := ⟨.hbm, 240, rfl⟩
abbrev main_call0_v167 : Ref sig .tc := ⟨.hbm, 241, rfl⟩
abbrev main_call0_v168 : Ref sig .tc := ⟨.hbm, 242, rfl⟩
abbrev main_call0_v169 : Ref sig .tc := ⟨.hbm, 243, rfl⟩
abbrev main_call0_v170 : Ref sig .tc := ⟨.hbm, 244, rfl⟩
abbrev main_v22_0 : Ref sig .tc := ⟨.hbm, 245, rfl⟩
abbrev main_call0_v172 : Ref sig .tc := ⟨.hbm, 246, rfl⟩
abbrev main_call0_v173 : Ref sig .tc := ⟨.hbm, 247, rfl⟩
abbrev main_call0_c_44 : Ref sig .tc := ⟨.hbm, 248, rfl⟩
abbrev main_call0_v174 : Ref sig .tc := ⟨.hbm, 249, rfl⟩
abbrev main_v22_1 : Ref sig .tc := ⟨.hbm, 250, rfl⟩
abbrev main_v23 : Ref sig .tc := ⟨.hbm, 251, rfl⟩
abbrev main_c_5 : Ref sig .tc := ⟨.hbm, 252, rfl⟩
abbrev main_v24 : Ref sig .tc := ⟨.hbm, 253, rfl⟩
abbrev main_v25 : Ref sig .tc := ⟨.hbm, 254, rfl⟩
abbrev main_c_6 : Ref sig .tc := ⟨.hbm, 255, rfl⟩
abbrev main_v26 : Ref sig .tc := ⟨.hbm, 256, rfl⟩
abbrev main_v27 : Ref sig .tc := ⟨.hbm, 257, rfl⟩
abbrev main_v28 : Ref sig .tc := ⟨.hbm, 258, rfl⟩
abbrev main_cst : Ref sig .tc := ⟨.hbm, 259, rfl⟩
abbrev main_v29 : Ref sig .tc := ⟨.hbm, 260, rfl⟩
abbrev main_v30 : Ref sig .tc := ⟨.hbm, 261, rfl⟩
abbrev main_cst_7 : Ref sig .tc := ⟨.hbm, 262, rfl⟩
abbrev main_v31 : Ref sig .tc := ⟨.hbm, 263, rfl⟩
abbrev main_v32 : Ref sig .tc := ⟨.hbm, 264, rfl⟩
abbrev main_cst_8 : Ref sig .tc := ⟨.hbm, 265, rfl⟩
abbrev main_v33 : Ref sig .tc := ⟨.hbm, 266, rfl⟩
abbrev main_v34 : Ref sig .tc := ⟨.hbm, 267, rfl⟩
abbrev main_cst_9 : Ref sig .tc := ⟨.hbm, 268, rfl⟩
abbrev main_v35 : Ref sig .tc := ⟨.hbm, 269, rfl⟩
abbrev main_v36 : Ref sig .tc := ⟨.hbm, 270, rfl⟩
abbrev main_v37 : Ref sig .tc := ⟨.hbm, 271, rfl⟩
abbrev main_v38 : Ref sig .tc := ⟨.hbm, 272, rfl⟩
abbrev main_v39 : Ref sig .tc := ⟨.hbm, 273, rfl⟩
abbrev main_v40 : Ref sig .tc := ⟨.hbm, 274, rfl⟩
abbrev main_v41 : Ref sig .tc := ⟨.hbm, 275, rfl⟩
abbrev main_call1_v0 : Ref sig .tc := ⟨.hbm, 276, rfl⟩
abbrev main_call1_cst : Ref sig .tc := ⟨.hbm, 277, rfl⟩
abbrev main_call1_c : Ref sig .tc := ⟨.hbm, 278, rfl⟩
abbrev main_call1_v1_0 : Ref sig .tc := ⟨.hbm, 279, rfl⟩
abbrev main_v42 : Ref sig .tc := ⟨.hbm, 280, rfl⟩

abbrev nD : Nat := 1
abbrev τ : Topo := Topo.v7x

variable {F : FTy → Type} [FloatOps F]
-- ==== Proof.BodyIdeal.lean ====
/- The kernel's body over the ideal numbers, run once. -/
module

public import proofs.«01_k».proof.Proof.Gen.KernelIdeal.Skeleton
public import proofs.«01_k».proof.Proof.Gen.KernelIdeal.Frame
public import Idealize.ShloMosaic.Lib.Tactic

@[expose] public section

noncomputable section

namespace Cert.Proof.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- The body run once from any buffers: the contents it leaves in the result's buffer and the two accumulators. -/
noncomputable def bodyRun (c : Dev nD) (i : grid0.Coords)
    (M1 : Memref sig .tc .vmem S128x4096 .f32) (h1 : M1.IsWhole) (M2 : Memref sig .tc .vmem S128x1 .i32) (h2 : M2.IsWhole)
    (M3 : Memref sig .tc .vmem S128x4096 .f32) (h3 : M3.IsWhole) (M4 : Memref sig .tc .vmem S128x4096 .i32) (h4 : M4.IsWhole)
    (f1 : Bf (F := F) c M1) (f2 : Bf (F := F) c M2) (f3 : Bf (F := F) c M3) (f4 : Bf (F := F) c M4) :
    { W : Bf (F := F) c M2 × Bf (F := F) c M3 × Bf (F := F) c M4 //
      ∀ (E : Set ℕ) (Q : PUnit → sProp 𝕄),
        iprop(pt c M1 f1 ∗ pt c M2 f2 ∗ pt c M3 f3 ∗ pt c M4 f4
          ∗ (iprop(pt c M1 f1 ∗ pt c M2 W.1 ∗ pt c M3 W.2.1 ∗ pt c M4 W.2.2) -∗ Q ⟨⟩))
        ⊢ wp frame (wpE (defs₀ (F := F)) Variants.none c none) E
            (cc0__gumbel_argmax_kernel i M1 h1 M2 h2 M3 h3 M4 h4) Q } := by
  refine ⟨⟨?_, ?_, ?_⟩, fun E Q => ?run⟩
  case run =>
    iintro ⟨H1, H2, H3, H4, Hk⟩
    sl_exec_parts!
    sl_step
    iapply Hk
    isplitl [H1]; · iexact H1
    isplitl [H2]; · iexact H2
    isplitl [H3]; · iexact H3
    iexact H4

end Cert.Proof.Ideal

end
-- ==== Proof.FrameIdeal.lean ====
/- The idealization's frame: it runs to its end and leaves the logits. -/
module

public import proofs.«01_k».proof.Proof.BodyIdeal
public import Idealize.ShloMosaic.Lib.Pipeline.FrameSuffix

@[expose] public section

noncomputable section

namespace Cert.Proof.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The logits' block at point `t` in its staging buffer: the columns inside the array, and elsewhere a word the proof
    picks (no claim reads it). -/
def xblk (c : Dev nD) (t : Fin cfg0.N) : S128x4096.Idx → Elt F .f32 :=
  win0_0.fill (grid0.coords t) (fun _ => Scalar.ofBits .f32 0#32) (iblk m c 0 t)

/-- The frame's proof data: the arrays as the region finds them, the logits' buffer left as fetched, the result's
    forgotten, the two accumulators at something throughout. -/
def fdats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => fun _ => 0#32
  Φ _ := Pipeline.ΦA spec0 c
  q _ := fullShare
  owed _ := 0

/-- The result's window is the one the frame forgets. -/
abbrev forgets : Fin cfg0.W → Bool := fun | 0 => false | _ => true

/-- The logits' buffer as the body finds it: the block just fetched, anything past the array's edge. -/
theorem before_logits (c : Dev nD) (t : Fin cfg0.N) (d) :
    (fdats m 0 c).before (0 : Fin 2) t d = win0_0.fill (grid0.coords t) d (iblk m c 0 t) := by
  unfold Dat.before; rw [if_pos (fetch0_0 t)]; rfl

/-- The body at every point: the logits' buffer is left as found, the other buffers at something. -/
theorem frame_body (c : Dev nD) : BodyObligationLoose (fdats m 0 c) (defs₀ (F := F)) Variants.none () Set.univ forgets := fun t => by
  rw [bigSep_W0, bigSep_W0]
  simp only [forgets]
  rw [show (fdats m 0 c).Φ t.succ = Pipeline.ΦA spec0 c from rfl, show (fdats m 0 c).Φ t.castSucc = Pipeline.ΦA spec0 c from rfl,
    show (fdats m 0 c).owesAt () t.succ = (fdats m 0 c).owesAt () t.castSucc from rfl]
  unfold Pipeline.ΦA owns; rw [scopedRest0_eq]
  rw [Memref.IsWhole.set_eq_univ (hstage0_0 (cfg0.slots t 0)), Memref.IsWhole.set_eq_univ (hstage0_1 (cfg0.slots t 1))]
  iintro ⟨⟨⟨⟨%f3, H3⟩, ⟨%f4, H4⟩⟩, Hg⟩, Howes, ⟨%d0, %f1, %hf1, H1⟩, ⟨%X2, %f2, -, H2⟩⟩
  rw [before_logits m c t d0] at hf1
  iapply ((bodyRun c (grid0.coords t) (st0_0 t) (hstage0_0 ((cfg0.slots t 0).cast nbuf0_0)) (st0_1 t) (hstage0_1 ((cfg0.slots t 1).cast nbuf0_1))
    (Memref.whole cc0_scratch0) (Memref.isWhole_whole _) (Memref.whole cc0_scratch1) (Memref.isWhole_whole _) f1 f2 f3 f4).2 Set.univ _)
  isplitl [H1]; · iexact H1
  isplitl [H2]; · iexact H2
  isplitl [H3]; · iexact H3
  isplitl [H4]; · iexact H4
  iintro ⟨H1, H2, H3, H4⟩
  isplitl [H3 H4 Hg]
  · isplitr [Hg]
    · isplitl [H3]; · iexists _; iexact H3
      iexists _; iexact H4
    · iexact Hg
  isplitl [Howes]; · iexact Howes
  isplitl [H1]
  · iexists d0; iexists f1
    isplitr; · ipureintro; exact hf1.trans (congrArg (win0_0.fill (grid0.coords t) d0) (win0_0.cut_fill _ _ _).symm)
    iexact H1
  · iexists _; iexists _
    isplitr; swap; (· iexact H2)
    ipureintro; rfl

set_option backward.isDefEq.respectTransparency.types false in
/-- The kernel's frame: it runs to its end, the logits are unchanged, every counter is back at zero. -/
theorem frame_run : θ_run defs (onTc (τ := τ) (main (F := F))) ⟨m, fun _ => 0, ρ⟩ (fun r => (∀ c : Dev nD,
    r.2.mem ((c.tc : Thread nD τ).loc main_arg0) = m ((c.tc : Thread nD τ).loc main_arg0)) ∧ r.2.sem = fun _ => 0) :=
  Pipeline.θ_run_frame_around_T_forget cfgs (fdats m) (0 : Fin 1) launch0 defs₀ Variants.none forgets {main_v0} m ρ main
    (hbody := frame_body m) (hshare := fun c => (fdats m 0 c).share_full fun _ => rfl) (howed := fun _ _ => rfl)
    (V0 m) [hostOps1] (hsub := sfx_sub) (hfresh := sfx_fresh) (hkeep := sfx_keeps)
    (hT := by
      intro ops hops op hop b hb
      simp only [List.mem_singleton] at hops; subst hops
      simp only [hostOps1, List.mem_singleton] at hop; subst hop
      simp only [StableHlo.reshape_writes, Finset.mem_singleton] at hb
      exact Finset.mem_singleton.mpr (by by_contra hne; exact StableHlo.devRef_ne_of_ne hne hb))
    (hmain := hmain m Variants.none) (hA := fun _ _ => rfl) (hΦ := fun _ _ => rfl)
    (Q' := _)
    (hQ' := fun r h => ⟨fun c => (Pipeline.RDat.FramePostR.arr_in h.1 c (0 : Fin 2) rfl).trans (V_main_arg0 m c), h.2⟩)

end Cert.Proof.Ideal

end
-- ==== Proof.Hash.lean ====
/- The counter hash (Threefry-2x32, twenty rounds) on one pair of words. -/
module

public import Idealize.ShloMosaic.PureOps.Float

@[expose] public section

namespace Cert.Proof

/-- The hash's words. -/
abbrev W := BitVec 32

/-- Rotation to the left by `n`, `m` being `32 - n`. -/
def rot (n m : W) (x : W) : W := x <<< n ||| x >>> m

/-- One round on the two words. -/
def rnd (n m : W) (p : W × W) : W × W := (p.1 + p.2, (p.1 + p.2) ^^^ rot n m p.2)

/-- A key injection. -/
def inj (a b : W) (p : W × W) : W × W := (p.1 + a, p.2 + b)

/-- Four rounds with the first rotations: 13, 15, 26, 6. -/
def roundsA (p : W × W) : W × W := rnd 6#32 26#32 (rnd 26#32 6#32 (rnd 15#32 17#32 (rnd 13#32 19#32 p)))
/-- Four rounds with the second rotations: 17, 29, 16, 24. -/
def roundsB (p : W × W) : W × W := rnd 24#32 8#32 (rnd 16#32 16#32 (rnd 29#32 3#32 (rnd 17#32 15#32 p)))

/-- The hash of the words `x0`, `x1` under the key `k0`, `k1`, `k2` being the key schedule's third word. -/
def threefry (k0 k1 k2 x0 x1 : W) : W × W :=
  inj k2 (k0 + 5#32) <| roundsA <| inj k1 (k2 + 4#32) <| roundsB <| inj k0 (k1 + 3#32) <| roundsA <|
    inj k2 (k0 + 2#32) <| roundsB <| inj k1 (k2 + 1#32) <| roundsA (x0 + k0, x1 + k1)

/-- The random word at counter `n` under the key 42. -/
def bitsAt (n : W) : W :=
  let p := threefry 0#32 42#32 466689008#32 0#32 n
  p.1 ^^^ p.2

end Cert.Proof
end
-- ==== Proof.RefRun.lean ====
/- The reference program is a straight line of operations: its operation lists, part by part, and the run that folds
   them over the launch contents. -/
module

public import proofs.«01_k».proof.Defs
public import proofs.«01_k».proof.Proof.Gen.ReferenceIdeal
public import Idealize.ShloMosaic.Lib.StableHlo.Run
public import Idealize.ShloMosaic.Lib.StableHlo.RunRead

@[expose] public section

noncomputable section

namespace Cert.Proof.Ref

open Idealize.ShloMosaic Idealize.ShloMosaic.StableHlo Idealize.SL.Sem Cert.ReferenceIdeal

/-- An operation of the reference. -/
abbrev Op := HloOp τ sig (Elt Ideal)
/-- A program of operations. -/
abbrev Line := Prog (TpuEff nD τ sig (Elt Ideal) (Pipeline.Sig Λ₀ (Fin 0) fun p => (pcfgs (F := Ideal) p).Adm) .tc) PUnit

/-- An operation before a list. -/
theorem line_cons {op : Op} {k : Line} {l : List Op} (h : k = seq l) :
    ((hlo rfl op fun _ => .ret (⟨⟩ : PUnit)) >>= fun _ => k) = seq (op :: l) := by subst h; rfl

/-- One operation. -/
theorem line_one (op : Op) : (hlo rfl op (fun _ => .ret (⟨⟩ : PUnit)) : Line) = seq [op] := rfl

/-- A list before a list. -/
theorem line_append {a b : Line} {l l' : List Op} (h : a = seq l) (h' : b = seq l') :
    (a >>= fun _ => b) = seq (l ++ l') := by subst h; subst h'; exact (seq_append l l').symm

/-- No operation. -/
theorem line_nil : (pure ⟨⟩ : Line) = seq [] := rfl

/-- The first part of the counter hash, as its operations. -/
def hash0 : { l : List Op // (fn_threefry2x32.body_part0 (F := Ideal) (.of main_v8) (.of main_v10) (.of main_v21) (.of main_v20) main_call0 : Line) = seq l } := by
  apply Subtype.mk
  unfold fn_threefry2x32.body_part0
  repeat first | exact line_nil | exact line_one _ | apply line_cons

/-- The second part of the counter hash, as its operations. -/
def hash1 : { l : List Op // (fn_threefry2x32.body_part1 (F := Ideal) (.of main_v8) (.of main_v10) (.of main_v21) (.of main_v20) main_call0 : Line) = seq l } := by
  apply Subtype.mk
  unfold fn_threefry2x32.body_part1
  repeat first | exact line_nil | exact line_one _ | apply line_cons

/-- The third part of the counter hash, as its operations. -/
def hash2 : { l : List Op // (fn_threefry2x32.body_part2 (F := Ideal) (.of main_v8) (.of main_v10) (.of main_v21) (.of main_v20) main_call0 : Line) = seq l } := by
  apply Subtype.mk
  unfold fn_threefry2x32.body_part2
  repeat first | exact line_nil | exact line_one _ | apply line_cons

/-- The fourth part of the counter hash, as its operations. -/
def hash3 : { l : List Op // (fn_threefry2x32.body_part3 (F := Ideal) (.of main_v8) (.of main_v10) (.of main_v21) (.of main_v20) main_call0 : Line) = seq l } := by
  apply Subtype.mk
  unfold fn_threefry2x32.body_part3
  repeat first | exact line_nil | exact line_one _ | apply line_cons

/-- The choice of the largest element, as its operations. -/
def argmaxLine : { l : List Op // (fn_argmax.body (F := Ideal) (.of main_v41) main_call1 : Line) = seq l } := by
  apply Subtype.mk
  unfold fn_argmax.body
  repeat first | exact line_nil | apply line_cons

/-- The hash, as its operations. -/
abbrev hashOps : List Op := hash0.1 ++ (hash1.1 ++ (hash2.1 ++ hash3.1))

/-- The hash's function is its four parts' operations. -/
theorem hash_eq : (fn_threefry2x32.body (F := Ideal) (.of main_v8) (.of main_v10) (.of main_v21) (.of main_v20) main_call0 : Line) =
    seq hashOps := line_append hash0.2 (line_append hash1.2 (line_append hash2.2 hash3.2))

/-- An operation of the main function. -/
theorem step_cons {op : Op} {k : Line} {l r : List Op} (h : k = seq (l ++ r)) :
    ((hlo rfl op fun _ => .ret (⟨⟩ : PUnit)) >>= fun _ => k) = seq ((op :: l) ++ r) := line_cons h

/-- The main function's call of the hash. -/
theorem step_hash {k : Line} {l : List Op} (h : k = seq l) :
    ((fn_threefry2x32.body (F := Ideal) (.of main_v8) (.of main_v10) (.of main_v21) (.of main_v20) main_call0 : Line) >>= fun _ => k) =
      seq ([] ++ (hashOps ++ l)) := by
  rw [List.nil_append]; exact line_append hash_eq h

/-- The main function's call of the argmax. -/
theorem step_argmax : ((fn_argmax.body (F := Ideal) (.of main_v41) main_call1 : Line) >>= fun _ => pure ⟨⟩) = seq ([] ++ argmaxLine.1) := by
  rw [List.nil_append, ← argmaxLine.2]; exact bind_pure _

/-- The whole program: some operations, the hash, some operations, the choice. -/
def mainLine (d : Dev nD) : Σ' pre mid : List Op, main (F := Ideal) d = seq (pre ++ (hashOps ++ (mid ++ argmaxLine.1))) := by
  apply PSigma.mk
  apply PSigma.mk
  unfold main
  repeat first | exact step_argmax | apply step_hash | apply step_cons

/-- The operations before the hash: its key and its counters. -/
def preOps (d : Dev nD) : List Op := (mainLine d).1
/-- The operations after the hash: the perturbed logits. -/
def midOps (d : Dev nD) : List Op := (mainLine d).2.1
/-- The reference's operations, in order. -/
abbrev mainOps (d : Dev nD) : List Op := preOps d ++ (hashOps ++ (midOps d ++ argmaxLine.1))

/-- The main function is its operations. -/
theorem main_eq (d : Dev nD) : main (F := Ideal) d = seq (mainOps d) := (mainLine d).2.2

/-- Each operation of the line touches TensorCore buffers alone and makes none. -/
def Plain (l : List Op) : Prop := ∀ op ∈ l, op.bufs ⊆ tcRefs τ sig ∧ op.fresh = ∅

/-- No operation is plain. -/
theorem plain_nil : Plain [] := fun _ h => nomatch h

/-- A plain operation before plain ones. -/
theorem plain_cons {op : Op} {l : List Op} (h : op.bufs ⊆ tcRefs τ sig) (hf : op.fresh = ∅) (hl : Plain l) : Plain (op :: l) := by
  intro o ho
  rcases List.mem_cons.mp ho with rfl | ho
  exacts [⟨h, hf⟩, hl o ho]

/-- Plain ones before plain ones. -/
theorem plain_append {l l' : List Op} (h : Plain l) (h' : Plain l') : Plain (l ++ l') := fun o ho =>
  (List.mem_append.mp ho).elim (h o) (h' o)

section
variable {x a b c e y : Ref sig .tc} {l : List Op}

/-- A constant is plain. -/
theorem plain_nullary {v : y.ty.Contents (Elt Ideal)} {hy} (h : Plain l) : Plain (nullary y v hy :: l) :=
  plain_cons (nullary_bufs_sub ..) rfl h
/-- An operation of one operand is plain. -/
theorem plain_unary {f : x.ty.Contents (Elt Ideal) → y.ty.Contents (Elt Ideal)} {hx hy} (h : Plain l) : Plain (unary x y f hx hy :: l) :=
  plain_cons (unary_bufs_sub ..) rfl h
/-- An operation of two operands is plain. -/
theorem plain_binary {f : a.ty.Contents (Elt Ideal) → b.ty.Contents (Elt Ideal) → y.ty.Contents (Elt Ideal)} {ha hb hy} (h : Plain l) :
    Plain (binary a b y f ha hb hy :: l) := plain_cons (binary_bufs_sub ..) rfl h
/-- An operation of four operands is plain. -/
theorem plain_quaternary {f : a.ty.Contents (Elt Ideal) → b.ty.Contents (Elt Ideal) → c.ty.Contents (Elt Ideal) → e.ty.Contents (Elt Ideal) → y.ty.Contents (Elt Ideal)}
    {ha hb hc he hy} (h : Plain l) : Plain (quaternary a b c e y f ha hb hc he hy :: l) := plain_cons (quaternary_bufs_sub ..) rfl h
/-- A reshape is plain. -/
theorem plain_reshape {he hn hx hy} (h : Plain l) : Plain (reshape x y he hn hx hy :: l) := plain_cons (reshape_bufs_sub ..) rfl h
end

/-- The hash's first part is plain. -/
theorem hash0_plain : Plain hash0.1 := by
  unfold hash0
  repeat first
    | with_reducible exact plain_nil
    | with_reducible apply plain_nullary
    | with_reducible apply plain_unary
    | with_reducible apply plain_binary
    | with_reducible apply plain_quaternary

/-- The hash's second part is plain. -/
theorem hash1_plain : Plain hash1.1 := by
  unfold hash1
  repeat first
    | with_reducible exact plain_nil
    | with_reducible apply plain_nullary
    | with_reducible apply plain_unary
    | with_reducible apply plain_binary
    | with_reducible apply plain_quaternary

/-- The hash's third part is plain. -/
theorem hash2_plain : Plain hash2.1 := by
  unfold hash2
  repeat first
    | with_reducible exact plain_nil
    | with_reducible apply plain_nullary
    | with_reducible apply plain_unary
    | with_reducible apply plain_binary
    | with_reducible apply plain_quaternary

/-- The hash's fourth part is plain. -/
theorem hash3_plain : Plain hash3.1 := by
  unfold hash3
  repeat first
    | with_reducible exact plain_nil
    | with_reducible apply plain_nullary
    | with_reducible apply plain_unary
    | with_reducible apply plain_binary
    | with_reducible apply plain_quaternary

/-- The argmax is plain. -/
theorem argmaxLine_plain : Plain argmaxLine.1 := by
  unfold argmaxLine
  repeat first
    | with_reducible exact plain_nil
    | with_reducible apply plain_nullary
    | with_reducible apply plain_unary
    | with_reducible apply plain_binary
    | with_reducible apply plain_quaternary

/-- The operations before the hash are plain. -/
theorem pre_plain (d : Dev nD) : Plain (preOps d) := by
  unfold preOps mainLine
  repeat first
    | with_reducible exact plain_nil
    | with_reducible apply plain_nullary
    | with_reducible apply plain_unary
    | with_reducible apply plain_binary
    | with_reducible apply plain_reshape

/-- The operations between hash and argmax are plain. -/
theorem mid_plain (d : Dev nD) : Plain (midOps d) := by
  unfold midOps mainLine
  repeat first
    | with_reducible exact plain_nil
    | with_reducible apply plain_nullary
    | with_reducible apply plain_unary
    | with_reducible apply plain_binary

/-- All the reference's operations are plain. -/
theorem main_plain (d : Dev nD) : Plain (mainOps d) :=
  plain_append (pre_plain d) (plain_append (plain_append hash0_plain (plain_append hash1_plain (plain_append hash2_plain hash3_plain)))
    (plain_append (mid_plain d) argmaxLine_plain))

/-- The run: each buffer ends at the fold of the operations over the launch contents. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread nD τ).loc b) = after (mainOps d) (launchContents m d) (Proc.devRef .tc b) :=
  run_seq (by decide) (by decide) defs main mainOps main_eq
    (fun d => List.forall_iff_forall_mem.mpr fun op h => (main_plain d op h).1) m ρ (fun d op h => (main_plain d op h).2)

end Cert.Proof.Ref
end
end
-- ==== Proof.RefHash.lean ====
/- The random words the reference draws: what the hash's operations leave. -/
module

public import proofs.«01_k».proof.Proof.Hash
public import proofs.«01_k».proof.Proof.RefRun

@[expose] public section

noncomputable section

namespace Cert.Proof.Ref

open Idealize.ShloMosaic Idealize.ShloMosaic.StableHlo Idealize.SL.Sem Cert.ReferenceIdeal

/-- Buffer contents, by reference. -/
abbrev Vn := Valuation τ sig (Elt Ideal)

section
variable (d : Dev nD) (V : Vn)

/-! What the operations before the hash leave: the key's two words and the counter's. -/

/-- The key's first word, 0. -/
theorem pre_v8 : after (preOps d) V (Proc.devRef .tc main_v8) = fun _ => 0#32 := by
  unfold preOps mainLine
  after_results
  funext i
  obtain rfl : i = fun k => k.elim0 := funext fun k => k.elim0
  rfl

/-- The key's second word, 42. -/
theorem pre_v10 : after (preOps d) V (Proc.devRef .tc main_v10) = fun _ => 42#32 := by
  unfold preOps mainLine
  after_results
  funext i
  obtain rfl : i = fun k => k.elim0 := funext fun k => k.elim0
  rfl

/-- The counter's upper word is 0 everywhere. -/
theorem pre_v21 : after (preOps d) V (Proc.devRef .tc main_v21) = fun _ => 0#32 := by
  unfold preOps mainLine
  after_results_simp
  funext i
  have h0 : (i 0).val < 128 := (i 0).isLt
  have h1 : (i 1).val < 100000 := (i 1).isLt
  change BitVec.setWidth 32 (IntOp.shrui .host
    (100000#64 * BitVec.ofNat 64 (i 0).val + 1#64 * BitVec.ofNat 64 (i 1).val) 32#64) = _
  rw [IntOp.shrui, if_pos (by decide)]
  apply BitVec.eq_of_toNat_eq
  simp only [BitVec.toNat_setWidth, BitVec.ushiftRight_eq', BitVec.toNat_ushiftRight, BitVec.toNat_add, BitVec.toNat_mul,
    BitVec.toNat_ofNat, Nat.shiftRight_eq_div_pow,
    show 32 % 2 ^ 64 = 32 from rfl]
  generalize (i 0).val = a at *
  generalize (i 1).val = b at *
  have e : (100000 % 2 ^ 64 * (a % 2 ^ 64) % 2 ^ 64 + 1 % 2 ^ 64 * (b % 2 ^ 64) % 2 ^ 64) % 2 ^ 64 = 100000 * a + b := by
    omega
  rw [e, Nat.div_eq_of_lt (by omega)]

/-- The counter's lower word is the flat index. -/
theorem pre_v20 (i : S128x100000.Idx) :
    after (preOps d) V (Proc.devRef .tc main_v20) i = BitVec.ofNat 32 (100000 * (i 0).val + (i 1).val) := by
  unfold preOps mainLine
  after_results_simp
  have h0 : (i 0).val < 128 := (i 0).isLt
  have h1 : (i 1).val < 100000 := (i 1).isLt
  change BitVec.setWidth 32 (100000#64 * BitVec.ofNat 64 (i 0).val + 1#64 * BitVec.ofNat 64 (i 1).val) = _
  apply BitVec.eq_of_toNat_eq
  simp only [BitVec.toNat_setWidth, BitVec.toNat_add, BitVec.toNat_mul, BitVec.toNat_ofNat]
  omega

/-- The argument is kept. -/
theorem pre_arg0 : after (preOps d) V (Proc.devRef .tc main_arg0) = V (Proc.devRef .tc main_arg0) := by
  unfold preOps mainLine
  after_results_simp

end

/-! One round, and one key injection, as the program writes them on whole tensors, read at an index. -/

section
variable {s : Shape} {a b : IVec s 32} {i : s.Idx} {n m : W} {p : W × W} {hb : S_.BroadcastsInDim s (![] : Fin 0 → Fin s.rank)}

/-- A scalar constant on every element. -/
abbrev all (hb : S_.BroadcastsInDim s (![] : Fin 0 → Fin s.rank)) (n : W) : IVec s 32 := broadcastInDim s ![] hb (constantI S_ 32 n)

/-- A rotation, at one element. -/
theorem rot_at (hn : n.toNat < 32) (hm : m.toNat < 32) :
    ori (Host.shli b (all hb n)) (Host.shrui b (all hb m)) i = rot n m (b i) := by
  change (if n.toNat < 32 then b i <<< n else _) ||| (if m.toNat < 32 then b i >>> m else _) = _
  rw [if_pos hn, if_pos hm]; rfl

/-- A round whose sum is already made, at one element. -/
theorem rnd_half (hn : n.toNat < 32) (hm : m.toNat < 32) (ha : a i = p.1 + p.2) (hb' : b i = p.2) :
    (a i, xori a (ori (Host.shli b (all hb n)) (Host.shrui b (all hb m))) i) = rnd n m p := by
  change (a i, a i ^^^ ori (Host.shli b (all hb n)) (Host.shrui b (all hb m)) i) = _
  rw [rot_at hn hm, ha, hb']; rfl

/-- A round, at one element. -/
theorem rnd_step (hn : n.toNat < 32) (hm : m.toNat < 32) (h : (a i, b i) = p) :
    (addi a b i, xori (addi a b) (ori (Host.shli b (all hb n)) (Host.shrui b (all hb m))) i) = rnd n m p := by
  subst h; exact rnd_half hn hm rfl rfl

/-- Adding two of the key's words, at one element. -/
theorem inj_step {u v c : W} (h : (a i, b i) = p) :
    (addi a (broadcastInDim s ![] hb (fun _ => u : IVec S_ 32)) i, addi (addi b (broadcastInDim s ![] hb (fun _ => v : IVec S_ 32))) (all hb c) i) = inj u (v + c) p := by
  subst h
  change (a i + u, b i + v + c) = (a i + u, b i + (v + c))
  rw [BitVec.add_assoc]

/-- The same with the word read from a buffer. -/
theorem inj_step_of {u v c : W} {y : IVec S_ 32} (hy : y = fun _ => v) (h : (a i, b i) = p) :
    (addi a (broadcastInDim s ![] hb (fun _ => u : IVec S_ 32)) i, addi (addi b (broadcastInDim s ![] hb y)) (all hb c) i)
      = inj u (v + c) p := by
  subst hy; exact inj_step h
end

section
variable (V : Vn)

/-- The hash's first operations: five rounds. -/
theorem hash0_eq {k0 k1 : W} (h8 : V (Proc.devRef .tc main_v8) = fun _ => k0) (h10 : V (Proc.devRef .tc main_v10) = fun _ => k1)
    {x y : IVec S128x100000 32} (hx : V (Proc.devRef .tc main_v21) = x) (hy : V (Proc.devRef .tc main_v20) = y)
    (i : S128x100000.Idx) :
    (after hash0.1 V (Proc.devRef .tc main_call0_v40) i, after hash0.1 V (Proc.devRef .tc main_call0_v46) i)
      = rnd 17#32 15#32 (inj k1 ((k0 ^^^ k1 ^^^ 466688986#32) + 1#32)
        (roundsA (x i + k0, y i + k1))) := by
  unfold hash0
  after_results_simp
  simp only [TRef.ofBuf_toBuf, TRef.ofBuf, TRef.toBuf, cast_eq, h8, h10, hx, hy]
  simp only [roundsA]
  with_reducible refine rnd_step (by decide) (by decide) ?_
  refine inj_step_of (v := k0 ^^^ k1 ^^^ 466688986#32) rfl ?_
  repeat with_reducible refine rnd_step (by decide) (by decide) ?_
  rfl

/-- The next: six rounds, the first of them already summed. -/
theorem hash1_eq {k0 k1 k2 : W} (h8 : V (Proc.devRef .tc main_v8) = fun _ => k0) (h10 : V (Proc.devRef .tc main_v10) = fun _ => k1)
    (h1 : V (Proc.devRef .tc main_call0_v1) = fun _ => k2)
    {p : S128x100000.Idx → W × W} (hs : ∀ i, V (Proc.devRef .tc main_call0_v47) i = (p i).1 + (p i).2)
    (hr : ∀ i, V (Proc.devRef .tc main_call0_v46) i = (p i).2)
    (i : S128x100000.Idx) :
    (after hash1.1 V (Proc.devRef .tc main_call0_v88) i, after hash1.1 V (Proc.devRef .tc main_call0_v94) i)
      = rnd 26#32 6#32 (rnd 15#32 17#32 (rnd 13#32 19#32 (inj k2 (k0 + 2#32)
        (rnd 24#32 8#32 (rnd 16#32 16#32 (rnd 29#32 3#32 (p i))))))) := by
  unfold hash1
  after_results_simp
  simp only [TRef.ofBuf_toBuf, TRef.ofBuf, TRef.toBuf, cast_eq, h8, h10, h1]
  repeat first
    | with_reducible refine rnd_step (by decide) (by decide) ?_
    | refine inj_step ?_
  exact rnd_half (by decide) (by decide) (hs i) (hr i)

/-- The next: a round, an injection, four rounds, an injection. -/
theorem hash2_eq {k0 k1 k2 : W} (h8 : V (Proc.devRef .tc main_v8) = fun _ => k0) (h10 : V (Proc.devRef .tc main_v10) = fun _ => k1)
    (h1 : V (Proc.devRef .tc main_call0_v1) = fun _ => k2)
    (i : S128x100000.Idx) :
    (after hash2.1 V (Proc.devRef .tc main_call0_v137) i, after hash2.1 V (Proc.devRef .tc main_call0_v141) i)
      = inj k1 (k2 + 4#32) (roundsB (inj k0 (k1 + 3#32) (rnd 6#32 26#32
        (V (Proc.devRef .tc main_call0_v88) i, V (Proc.devRef .tc main_call0_v94) i)))) := by
  unfold hash2
  after_results_simp
  simp only [TRef.ofBuf_toBuf, TRef.ofBuf, TRef.toBuf, cast_eq, h8, h10, h1]
  simp only [roundsB]
  repeat first
    | with_reducible refine rnd_step (by decide) (by decide) ?_
    | refine inj_step ?_
  rfl

/-- The last: four rounds, the first already summed, and an injection. -/
theorem hash3_eq {k0 k1 k2 : W} (h8 : V (Proc.devRef .tc main_v8) = fun _ => k0) (h10 : V (Proc.devRef .tc main_v10) = fun _ => k1)
    (h1 : V (Proc.devRef .tc main_call0_v1) = fun _ => k2)
    {p : S128x100000.Idx → W × W} (hs : ∀ i, V (Proc.devRef .tc main_call0_v142) i = (p i).1 + (p i).2)
    (hr : ∀ i, V (Proc.devRef .tc main_call0_v141) i = (p i).2)
    (i : S128x100000.Idx) :
    (after hash3.1 V (Proc.devRef .tc main_v22_0) i, after hash3.1 V (Proc.devRef .tc main_v22_1) i)
      = inj k2 (k0 + 5#32) (rnd 6#32 26#32 (rnd 26#32 6#32 (rnd 15#32 17#32 (rnd 13#32 19#32 (p i))))) := by
  unfold hash3
  after_results_simp
  simp only [TRef.ofBuf_toBuf, TRef.ofBuf, TRef.toBuf, cast_eq, h8, h10, h1]
  repeat first
    | with_reducible refine rnd_step (by decide) (by decide) ?_
    | refine inj_step ?_
  exact rnd_half (by decide) (by decide) (hs i) (hr i)

/-- The two words' exclusive or, at one element. -/
theorem xor_pair {s : Shape} {a b : IVec s 32} {i : s.Idx} {q : W × W} (h : (a i, b i) = q) : xori a b i = q.1 ^^^ q.2 := by
  subst h; rfl

/-- Two lists of operations, one after the other. -/
theorem after_two (l l' : List Op) (V : Vn) : after (l ++ l') V = after l' (after l V) := by
  induction l generalizing V with
  | nil => rfl
  | cons op l ih => exact ih _

/-! What the parts leave in place for the next. -/

/-- The first part keeps what the later ones read. -/
theorem hash0_keeps :
    after hash0.1 V (Proc.devRef .tc main_v8) = V (Proc.devRef .tc main_v8) ∧
    after hash0.1 V (Proc.devRef .tc main_v10) = V (Proc.devRef .tc main_v10) ∧
    after hash0.1 V (Proc.devRef .tc main_arg0) = V (Proc.devRef .tc main_arg0) := by
  unfold hash0
  refine ⟨?_, ?_, ?_⟩ <;> after_results_simp

/-- The second part keeps what the later ones read. -/
theorem hash1_keeps :
    after hash1.1 V (Proc.devRef .tc main_v8) = V (Proc.devRef .tc main_v8) ∧
    after hash1.1 V (Proc.devRef .tc main_v10) = V (Proc.devRef .tc main_v10) ∧
    after hash1.1 V (Proc.devRef .tc main_call0_v1) = V (Proc.devRef .tc main_call0_v1) ∧
    after hash1.1 V (Proc.devRef .tc main_arg0) = V (Proc.devRef .tc main_arg0) := by
  unfold hash1
  refine ⟨?_, ?_, ?_, ?_⟩ <;> after_results_simp

/-- The third part keeps what the later ones read. -/
theorem hash2_keeps :
    after hash2.1 V (Proc.devRef .tc main_v8) = V (Proc.devRef .tc main_v8) ∧
    after hash2.1 V (Proc.devRef .tc main_v10) = V (Proc.devRef .tc main_v10) ∧
    after hash2.1 V (Proc.devRef .tc main_call0_v1) = V (Proc.devRef .tc main_call0_v1) ∧
    after hash2.1 V (Proc.devRef .tc main_arg0) = V (Proc.devRef .tc main_arg0) := by
  unfold hash2
  refine ⟨?_, ?_, ?_, ?_⟩ <;> after_results_simp

/-- The fourth part keeps the argument. -/
theorem hash3_keeps :
    after hash3.1 V (Proc.devRef .tc main_arg0) = V (Proc.devRef .tc main_arg0) := by
  unfold hash3
  after_results_simp

/-- The key's third word. -/
theorem hash0_key {k0 k1 : W} (h8 : V (Proc.devRef .tc main_v8) = fun _ => k0) (h10 : V (Proc.devRef .tc main_v10) = fun _ => k1) :
    after hash0.1 V (Proc.devRef .tc main_call0_v1) = fun _ => k0 ^^^ k1 ^^^ 466688986#32 := by
  unfold hash0
  after_results_simp
  simp only [TRef.ofBuf_toBuf, TRef.ofBuf, TRef.toBuf, cast_eq, h8, h10]
  rfl

/-- The first part's last sum is that of the words it leaves. -/
theorem hash0_sum (i : S128x100000.Idx) :
    after hash0.1 V (Proc.devRef .tc main_call0_v47) i
      = addi (after hash0.1 V (Proc.devRef .tc main_call0_v40) : IVec S128x100000 32) (after hash0.1 V (Proc.devRef .tc main_call0_v46)) i := by
  unfold hash0
  after_results_simp
  simp only [TRef.ofBuf_toBuf, TRef.ofBuf, TRef.toBuf, cast_eq]

/-- The third part's last sum is that of the words it leaves. -/
theorem hash2_sum (i : S128x100000.Idx) :
    after hash2.1 V (Proc.devRef .tc main_call0_v142) i
      = addi (after hash2.1 V (Proc.devRef .tc main_call0_v137) : IVec S128x100000 32) (after hash2.1 V (Proc.devRef .tc main_call0_v141)) i := by
  unfold hash2
  after_results_simp
  simp only [TRef.ofBuf_toBuf, TRef.ofBuf, TRef.toBuf, cast_eq]

end

/-- The word the reference draws for an element: the hash of the element's place in row-major order. -/
theorem words (d : Dev nD) (V : Vn) (i : S128x100000.Idx) :
    xori (after hashOps (after (preOps d) V) (Proc.devRef .tc main_v22_0) : IVec S128x100000 32)
        (after hashOps (after (preOps d) V) (Proc.devRef .tc main_v22_1)) i
      = bitsAt (BitVec.ofNat 32 (100000 * (i 0).val + (i 1).val)) := by
  unfold hashOps
  rw [after_two, after_two, after_two]
  set V0 := after (preOps d) V with hV0
  have a8 := pre_v8 d V
  have a10 := pre_v10 d V
  rw [← hV0] at a8 a10
  set V1 := after hash0.1 V0 with hV1
  have key := hash0_key V0 a8 a10
  obtain ⟨b8, b10, -⟩ := hash0_keeps V0
  rw [← hV1] at key b8 b10
  rw [a8] at b8
  rw [a10] at b10
  have s1 := hash0_sum V0
  have e1 := hash0_eq V0 a8 a10 (pre_v21 d V) rfl
  rw [← hV1] at s1 e1
  set V2 := after hash1.1 V1 with hV2
  obtain ⟨c8, c10, ckey, -⟩ := hash1_keeps V1
  rw [← hV2] at c8 c10 ckey
  rw [b8] at c8
  rw [b10] at c10
  rw [key] at ckey
  have e2 := fun i => hash1_eq V1 b8 b10 key (p := fun i => (V1 (Proc.devRef .tc main_call0_v40) i, V1 (Proc.devRef .tc main_call0_v46) i))
    s1 (fun _ => rfl) i
  rw [← hV2] at e2
  have e3 := fun i => hash2_eq V2 c8 c10 ckey i
  obtain ⟨d8, d10, dkey, -⟩ := hash2_keeps V2
  have s3 := hash2_sum V2
  set V3 := after hash2.1 V2 with hV3
  rw [c8] at d8
  rw [c10] at d10
  rw [ckey] at dkey
  have e4 := hash3_eq V3 d8 d10 dkey (p := fun i => (V3 (Proc.devRef .tc main_call0_v137) i, V3 (Proc.devRef .tc main_call0_v141) i))
    s3 (fun _ => rfl) i
  refine (xor_pair e4).trans ?_
  simp only [e3, e2, e1]
  rw [show V0 (Proc.devRef .tc main_v20) i = BitVec.ofNat 32 (100000 * (i 0).val + (i 1).val) from pre_v20 d V i]
  rfl

end Cert.Proof.Ref
end
end
-- ==== Proof.RefValue.lean ====
/- The reference's result: what its last operations make of the random words. -/
module

public import proofs.«01_k».proof.Proof.RefHash
public import Idealize.ShloMosaic.Lib.Quiescent
public import Idealize.ShloMosaic.Lib.Claim

@[expose] public section

noncomputable section

namespace Cert.Proof.Ref

open Idealize.ShloMosaic Idealize.ShloMosaic.StableHlo Idealize.SL.Sem Cert.ReferenceIdeal

section
variable (d : Dev nD) (V : Vn)

/-- The hash keeps the argument. -/
theorem hash_arg0 : after hashOps V (Proc.devRef .tc main_arg0) = V (Proc.devRef .tc main_arg0) := by
  unfold hashOps
  rw [after_two, after_two, after_two, hash3_keeps, (hash2_keeps _).2.2.2, (hash1_keeps _).2.2.2, (hash0_keeps _).2.2]

/-- The noise's operations keep the argument. -/
theorem mid_arg0 : after (midOps d) V (Proc.devRef .tc main_arg0) = V (Proc.devRef .tc main_arg0) := by
  unfold midOps mainLine
  after_results_simp

/-- The argmax keeps the argument. -/
theorem argmax_arg0 : after argmaxLine.1 V (Proc.devRef .tc main_arg0) = V (Proc.devRef .tc main_arg0) := by
  unfold argmaxLine
  after_results_simp

/-- The reference leaves its argument. -/
theorem main_arg0_kept : after (mainOps d) V (Proc.devRef .tc main_arg0) = V (Proc.devRef .tc main_arg0) := by
  unfold mainOps
  rw [after_two, after_two, after_two, argmax_arg0, mid_arg0, hash_arg0, pre_arg0]

end

/-- The reference's frame: it runs to its end, its argument is unchanged, every counter is at zero. -/
theorem frame_run (m : (ℓ : Loc nD τ sig) → Buf (Elt Ideal) ℓ) (ρ : Dev nD → PrngReg) :
    θ_run defs (onTc (τ := τ) main) ⟨m, fun _ => 0, ρ⟩ (fun r => (∀ c : Dev nD,
      r.2.mem ((c.tc : Thread nD τ).loc main_arg0) = m ((c.tc : Thread nD τ).loc main_arg0)) ∧ r.2.sem = fun _ => 0) :=
  θ_run_mono (run m ρ) fun r h => ⟨fun c => by rw [h c main_arg0, main_arg0_kept], sem_eq_zero_of_no_sems (by decide) r.2⟩

end Cert.Proof.Ref
end
-- ==== Proof.Score.lean ====
/- The perturbed logit of one element over the extended reals, the noise made from a random word. -/
module

public import proofs.«01_k».proof.Proof.Hash
public import Idealize.ShloMosaic.PureOps.Ideal

@[expose] public section

noncomputable section

namespace Cert.Proof

open Idealize.ShloMosaic

/-- The least uniform value, the float nearest 1e-10. -/
def eps : EReal := Ideal.ofBits .f32 0x2EDBE6FF#32

/-- A random word's fraction in [0, 1): its upper 23 bits as a float's mantissa. -/
def frac (w : W) : EReal := Ideal.ofBits .f32 (w >>> 9#32 ||| 1065353216#32) - 1

/-- The noise taken from the logit: log (- log u). -/
def noise (w : W) : EReal := Ideal.log (-(Ideal.log (frac w + eps)))

/-- The perturbed logit. -/
def score (lg : EReal) (w : W) : EReal := lg - noise w

/-! The ideal floats' operations by name. -/

/-- The ideal operations are those of the extended reals. -/
theorem subf_eq (a b : EReal) : FloatOps.subf (F := Ideal) (φ := .f32) a b = a - b := rfl
theorem addf_eq (a b : EReal) : FloatOps.addf (F := Ideal) (φ := .f32) a b = a + b := rfl
theorem mulf_eq (a b : EReal) : FloatOps.mulf (F := Ideal) (φ := .f32) a b = a * b := rfl
theorem negf_eq (a : EReal) : FloatOps.negf (F := Ideal) (φ := .f32) a = -a := rfl
theorem maximumf_eq (a b : EReal) : FloatOps.maximumf (F := Ideal) (φ := .f32) a b = max a b := rfl
theorem log_eq (a : EReal) : FloatOps.log (F := Ideal) (φ := .f32) a = Ideal.log a := rfl
theorem ofBits_eq (b : BitVec 32) : FloatOps.ofBits (F := Ideal) .f32 b = Ideal.ofBits .f32 b := rfl

/-- The word of minus infinity. -/
theorem ofBits_neg_inf : Ideal.ofBits .f32 0xFF800000#32 = ⊥ := by
  unfold Ideal.ofBits Ideal.ieee
  exact (if_pos (by decide)).trans ((if_pos (by decide)).trans (if_pos (by decide)))

/-- The noise as a program writes it, taken from the logit. -/
theorem score_eq (lg : EReal) (w : W) :
    lg - Ideal.log (0 - Ideal.log (Ideal.ofBits .f32 (w >>> 9#32 ||| 1065353216#32) - 1 + Ideal.ofBits .f32 0x2EDBE6FF#32)) = score lg w := by
  rw [zero_sub]
  unfold score noise frac eps
  rfl

/-- The word of 1e-10 is a positive real. -/
theorem eps_real : ∃ e : ℝ, 0 < e ∧ eps = e := by
  unfold eps Ideal.ofBits Ideal.ieee
  refine ⟨_, ?_, if_neg ?_ |>.trans (if_neg ?_)⟩
  · rw [if_neg (by decide)]
    positivity
  · decide
  · decide

/-- The mantissa's word, as a number. -/
theorem mantissa_toNat (w : W) : (w >>> 9#32 ||| 1065353216#32).toNat = 127 * 2 ^ 23 + w.toNat / 512 := by
  have h : w.toNat / 512 < 2 ^ 23 := by have := w.isLt; omega
  rw [BitVec.toNat_or, BitVec.ushiftRight_eq', BitVec.toNat_ushiftRight, Nat.or_comm, Nat.shiftRight_eq_div_pow,
    show (1065353216#32).toNat = 2 ^ 23 * 127 from rfl, show (2 ^ (9#32).toNat) = 512 from rfl, ← Nat.two_pow_add_eq_or_of_lt h, Nat.mul_comm]

/-- The fraction is a real, and not negative. -/
theorem frac_real (w : W) : ∃ f : ℝ, 0 ≤ f ∧ frac w = f := by
  have h : w.toNat / 512 < 2 ^ 23 := by have := w.isLt; omega
  have e1 : (w >>> 9#32 ||| 1065353216#32).extractLsb' 31 1 = 0#1 := by
    apply BitVec.eq_of_toNat_eq
    rw [BitVec.extractLsb'_toNat, mantissa_toNat, Nat.shiftRight_eq_div_pow]
    simp only [BitVec.toNat_ofNat]; omega
  have e2 : ((w >>> 9#32 ||| 1065353216#32).extractLsb' 23 8).toNat = 127 := by
    rw [BitVec.extractLsb'_toNat, mantissa_toNat, Nat.shiftRight_eq_div_pow]; omega
  refine ⟨(2 ^ 23 + (((w >>> 9#32 ||| 1065353216#32).extractLsb' 0 23).toNat : ℕ) : ℕ) * (2 : ℝ) ^ (-23 : ℤ) - 1, ?_, ?_⟩
  · have : (1 : ℝ) = (2 ^ 23 : ℕ) * (2 : ℝ) ^ (-23 : ℤ) := by norm_num
    rw [sub_nonneg]
    nth_rewrite 1 [this]
    gcongr
    omega
  · unfold frac Ideal.ofBits Ideal.ieee
    simp only [e1, e2]
    norm_num

/-- The noise is never plus infinity. -/
theorem noise_ne_top (w : W) : noise w ≠ ⊤ := by
  obtain ⟨f, hf, ef⟩ := frac_real w
  obtain ⟨e, he, ee⟩ := eps_real
  unfold noise
  rw [ef, ee, ← EReal.coe_add]
  have hl : Ideal.log ((f + e : ℝ) : EReal) = (Real.log (f + e) : ℝ) := if_neg (not_le.2 (by positivity))
  rw [hl, ← EReal.coe_neg]
  change (if -Real.log (f + e) ≤ 0 then ⊥ else ((Real.log (-Real.log (f + e)) : ℝ) : EReal)) ≠ ⊤
  split
  · exact bot_ne_top
  · exact EReal.coe_ne_top _

/-- A logit above minus infinity has a score above minus infinity. -/
theorem score_pos {lg : EReal} (w : W) (h : ⊥ < lg) : ⊥ < score lg w := by
  unfold score
  rw [sub_eq_add_neg, bot_lt_iff_ne_bot]
  intro e
  rcases EReal.add_eq_bot_iff.1 e with e | e
  · exact h.ne' e
  · exact noise_ne_top w (EReal.neg_eq_bot_iff.1 e)

/-- The reference's clamped uniform is the kernel's. -/
theorem clamp (w : W) : max eps (frac w * 1 + eps) = frac w + eps := by
  obtain ⟨f, hf, ef⟩ := frac_real w
  obtain ⟨e, he, ee⟩ := eps_real
  rw [mul_one, ef, ee, ← EReal.coe_add]
  exact max_eq_right (EReal.coe_le_coe_iff.2 (by linarith))

end Cert.Proof
end
end
-- ==== Proof.First.lean ====
/- The first place at which a maximum is attained: how a running maximum with its index follows it, how the lanes of a
   running maximum are put together, and that it is unique. -/
module

public import Mathlib.Data.EReal.Basic
public import Mathlib.Data.Finset.Fold

@[expose] public section

namespace Cert.Proof

/-- `v` is the maximum of `x` on `S` (or `⊥` on nothing), and where it is above `⊥`, `i` is the first place of `S` at which
    `x` attains it. -/
structure Best (x : ℕ → EReal) (S : ℕ → Prop) (v : EReal) (i : BitVec 32) : Prop where
  le : ∀ c, S c → x c ≤ v
  att : ⊥ < v → ∃ c, S c ∧ i = BitVec.ofNat 32 c ∧ x c = v ∧ ∀ c', S c' → x c' = v → c ≤ c'

variable {x : ℕ → EReal} {S : ℕ → Prop} {v : EReal} {i : BitVec 32}

/-- Of no places, the best value is minus infinity and the index is anything. -/
theorem Best.empty (i : BitVec 32) (h : ∀ c, ¬ S c) : Best x S ⊥ i :=
  ⟨fun c hc => (h c hc).elim, fun h => (lt_irrefl _ h).elim⟩

/-- The relation depends on the values at the places alone. -/
theorem Best.congr {x' : ℕ → EReal} {S' : ℕ → Prop} (h : Best x S v i) (hS : ∀ c, S c ↔ S' c) (hx : ∀ c, S c → x c = x' c) :
    Best x' S' v i :=
  ⟨fun c hc => hx c ((hS c).2 hc) ▸ h.le c ((hS c).2 hc), fun hv => by
    obtain ⟨c, hc, hi, hxc, hm⟩ := h.att hv
    exact ⟨c, (hS c).1 hc, hi, hx c hc ▸ hxc, fun c' hc' e => hm c' ((hS c').2 hc') ((hx c' ((hS c').2 hc')).trans e)⟩⟩

/-- One more place, after all the others. -/
theorem Best.step {S' : ℕ → Prop} {c : ℕ} (h : Best x S v i) (hlt : ∀ d, S d → d < c) (hS : ∀ d, S' d ↔ S d ∨ d = c) :
    Best x S' (max (x c) v) (if v < x c then BitVec.ofNat 32 c else i) := by
  constructor
  · intro d hd
    rcases (hS d).1 hd with hd | rfl
    · exact (h.le d hd).trans (le_max_right _ _)
    · exact le_max_left _ _
  · intro hv
    by_cases hc : v < x c
    · rw [if_pos hc, max_eq_left hc.le]
      refine ⟨c, (hS c).2 (.inr rfl), rfl, rfl, fun d hd e => ?_⟩
      rcases (hS d).1 hd with hd | rfl
      · exact absurd (e ▸ h.le d hd) (not_le.2 hc)
      · exact le_rfl
    · rw [if_neg hc]
      rw [max_eq_right (not_lt.1 hc)] at hv ⊢
      obtain ⟨d, hd, hi, hx, hm⟩ := h.att hv
      refine ⟨d, (hS d).2 (.inl hd), hi, hx, fun e he hxe => ?_⟩
      rcases (hS e).1 he with he | rfl
      · exact hm e he hxe
      · exact (hlt d hd).le

/-- A small number's word, read with a sign, is the number. -/
theorem toInt_ofNat {c : ℕ} (h : c < 2 ^ 31) : (BitVec.ofNat 32 c).toInt = c := by
  rw [BitVec.toInt_eq_toNat_of_lt (by rw [BitVec.toNat_ofNat]; omega), BitVec.toNat_ofNat, Nat.mod_eq_of_lt (by omega)]

/-- The lanes together: the least index among the lanes that attain the greatest maximum. -/
theorem Best.lanes {ι : Type} {T : ι → ℕ → Prop} {vs : ι → EReal} {is : ι → BitVec 32} {w : BitVec 32}
    (h : ∀ l, Best x (T l) (vs l) (is l)) (hS : ∀ c, S c ↔ ∃ l, T l c) (hb : ∀ c, S c → c < 2 ^ 31)
    (hle : ∀ l, vs l ≤ v) (hw : ∃ l, vs l = v ∧ w = is l) (hmin : ∀ l, vs l = v → w.toInt ≤ (is l).toInt) :
    Best x S v w := by
  refine ⟨fun c hc => ?_, fun hv => ?_⟩
  · obtain ⟨l, hl⟩ := (hS c).1 hc
    exact ((h l).le c hl).trans (hle l)
  · obtain ⟨l, hl, rfl⟩ := hw
    obtain ⟨c, hc, hi, hxc, hm⟩ := (h l).att (hl ▸ hv)
    refine ⟨c, (hS c).2 ⟨l, hc⟩, hi, hxc.trans hl, fun c' hc' e => ?_⟩
    obtain ⟨l', hl'⟩ := (hS c').1 hc'
    have hv' : vs l' = v := le_antisymm (hle l') (e ▸ (h l').le c' hl')
    obtain ⟨d, hd, hi', hxd, hm'⟩ := (h l').att (hv' ▸ hv)
    have h1 := hmin l' hv'
    rw [hi, hi', toInt_ofNat (hb c ((hS c).2 ⟨l, hc⟩)), toInt_ofNat (hb d ((hS d).2 ⟨l', hd⟩))] at h1
    exact (Int.ofNat_le.1 h1).trans (hm' c' hl' (e.trans hv'.symm))

/-- Two answers above `⊥` are one. -/
theorem Best.unique {v' : EReal} {i' : BitVec 32} (h : Best x S v i) (h' : Best x S v' i') (hv : ⊥ < v) (hv' : ⊥ < v') : i = i' := by
  obtain ⟨c, hc, rfl, hx, hm⟩ := h.att hv
  obtain ⟨d, hd, rfl, hxd, hm'⟩ := h'.att hv'
  have e : v = v' := le_antisymm (hx ▸ h'.le c hc) (hxd ▸ h.le d hd)
  subst e
  rw [le_antisymm (hm d hd hxd) (hm' c hc hx)]

/-- A fold of an operation that picks one of its operands, a bound of both. -/
theorem fold_picks {ι β : Type} {op : β → β → β} [Std.Commutative op] [Std.Associative op] (R : β → β → Prop)
    (hR : ∀ a, R a a) (hT : ∀ a b c, R a b → R b c → R a c) (pick : ∀ a b, op a b = a ∨ op a b = b)
    (left : ∀ a b, R (op a b) a) (right : ∀ a b, R (op a b) b) (b : β) (f : ι → β) (s : Finset ι) :
    (s.fold op b f = b ∨ ∃ k ∈ s, s.fold op b f = f k) ∧ R (s.fold op b f) b ∧ ∀ k ∈ s, R (s.fold op b f) (f k) := by
  classical
  induction s using Finset.induction with
  | empty => exact ⟨.inl rfl, hR _, fun k hk => (Finset.notMem_empty k hk).elim⟩
  | insert a s ha ih =>
    rw [Finset.fold_insert ha]
    obtain ⟨h1, h2, h3⟩ := ih
    refine ⟨?_, hT _ _ _ (right _ _) h2, fun k hk => ?_⟩
    · rcases pick (f a) (s.fold op b f) with e | e
      · exact .inr ⟨a, Finset.mem_insert_self _ _, e⟩
      · rw [e]
        rcases h1 with h1 | ⟨k, hk, h1⟩
        · exact .inl h1
        · exact .inr ⟨k, Finset.mem_insert_of_mem hk, h1⟩
    · rcases Finset.mem_insert.1 hk with rfl | hk
      · exact left _ _
      · exact hT _ _ _ (right _ _) (h3 k hk)

/-- The same of a list's fold. -/
theorem foldl_picks {β : Type} {op : β → β → β} (R : β → β → Prop) (hR : ∀ a, R a a) (hT : ∀ a b c, R a b → R b c → R a c)
    (pick : ∀ a b, op a b = a ∨ op a b = b) (left : ∀ a b, R (op a b) a) (right : ∀ a b, R (op a b) b) (l : List β) (b : β) :
    (l.foldl op b = b ∨ l.foldl op b ∈ l) ∧ R (l.foldl op b) b ∧ ∀ k ∈ l, R (l.foldl op b) k := by
  induction l generalizing b with
  | nil => exact ⟨.inl rfl, hR _, fun k hk => (List.not_mem_nil hk).elim⟩
  | cons a l ih =>
    obtain ⟨h1, h2, h3⟩ := ih (op b a)
    rw [List.foldl_cons]
    refine ⟨?_, hT _ _ _ h2 (left _ _), fun k hk => ?_⟩
    · rcases h1 with h1 | h1
      · rcases pick b a with e | e
        · exact .inl (h1.trans e)
        · exact .inr (by rw [h1, e]; exact List.mem_cons_self)
      · exact .inr (List.mem_cons_of_mem _ h1)
    · rcases List.mem_cons.1 hk with rfl | hk
      · exact hT _ _ _ h2 (right _ _)
      · exact h3 k hk

end Cert.Proof
end
-- ==== Proof.RefScore.lean ====
/- The reference's answer: the least column of a row that attains the row's best score. -/
module

public import proofs.«01_k».proof.Proof.RefValue
public import proofs.«01_k».proof.Proof.Score
public import proofs.«01_k».proof.Proof.First
public import Idealize.ShloMosaic.PureOps.Reduce
public import Idealize.ShloMosaic.PureOps.Ideal.Laws
public import Idealize.ShloMosaic.Lib.IdealHost

@[expose] public section

noncomputable section

namespace Cert.Proof.Ref

open Idealize.ShloMosaic Idealize.ShloMosaic.StableHlo Idealize.SL.Sem Cert.ReferenceIdeal

/-- The reference's scores at a place, from the logits and the two random words there. -/
theorem mid_score (d : Dev nD) (V : Vn) (lg z : FVec Ideal S128x100000 .f32) (a b : IVec S128x100000 32)
    (h0 : V (Proc.devRef .tc main_arg0) = lg) (h1 : V (Proc.devRef .tc main_v22_0) = a) (h2 : V (Proc.devRef .tc main_v22_1) = b)
    (hz : after (midOps d) V (Proc.devRef .tc main_v41) = z) (i : S128x100000.Idx) :
    z i = score (lg i) (xori a b i) := by
  subst hz
  unfold midOps mainLine
  after_results_simp
  rw [h0, h1, h2]
  generalize hw : xori a b = w
  have ho : ori (Host.shrui w (all Facts₀.bcast_S_S128x100000 9#32)) (all Facts₀.bcast_S_S128x100000 1065353216#32) i = w i >>> 9#32 ||| 1065353216#32 := by
    change (if (9#32).toNat < 32 then w i >>> 9#32 else IntOp.cornerWord .scalar .shrui (w i) 9#32) ||| 1065353216#32 = _
    rw [if_pos (by decide)]
  refine Eq.trans (b := lg i + -(Ideal.log (-(Ideal.log (max (Ideal.ofBits .f32 786163455#32)
    ((Ideal.ofBits .f32 (ori (Host.shrui w (all Facts₀.bcast_S_S128x100000 9#32)) (all Facts₀.bcast_S_S128x100000 1065353216#32) i)
      - Ideal.ofBits .f32 1065353216#32) * Ideal.ofBits .f32 1065353216#32 + Ideal.ofBits .f32 786163455#32)))))) rfl ?_
  rw [ho]
  have h := clamp (w i)
  unfold frac eps at h
  unfold score noise frac eps
  rw [Ideal.ofBits_one_f32, sub_eq_add_neg (lg i), ← h]

/-- The reducer keeps the greater score, and of equal scores the smaller index. -/
theorem reducer_eq (p q : EReal × BitVec 32) : reducer_argmax_f32_i32 (F := Ideal) p q
    = if q.1 < p.1 ∨ (p.1 = q.1 ∧ p.2.slt q.2) then p else q := by
  obtain ⟨a, i⟩ := p
  obtain ⟨b, j⟩ := q
  change (Scalar.select (Ideal.cmp .ogt a b ||| Ideal.cmp .une a a) a b,
    Scalar.select ((Ideal.cmp .ogt a b ||| Ideal.cmp .une a a) ||| (Ideal.cmp .oeq a b &&& BitVec.ofBool (i.slt j))) i j) = _
  have hu : Ideal.cmp .une a a = 0#1 := by simp [Ideal.cmp]
  rw [hu]
  rcases lt_trichotomy a b with h | h | h
  · simp [Ideal.cmp, Scalar.select, h.not_gt, h.ne]
  · subst h
    cases hs : i.slt j <;> simp [Ideal.cmp, Scalar.select, hs]
  · simp [Ideal.cmp, Scalar.select, h, h.ne']

/-- At least as good: a greater score, or an equal one at no later index. -/
def Beats (p q : EReal × BitVec 32) : Prop := q.1 < p.1 ∨ (p.1 = q.1 ∧ p.2.toInt ≤ q.2.toInt)

/-- `Beats` is transitive. -/
theorem Beats.trans {p q r : EReal × BitVec 32} (h : Beats p q) (h' : Beats q r) : Beats p r := by
  rcases h with h | ⟨h, hi⟩ <;> rcases h' with h' | ⟨h', hi'⟩
  · exact .inl (h'.trans h)
  · exact .inl (h' ▸ h)
  · exact .inl (h ▸ h')
  · exact .inr ⟨h.trans h', hi.trans hi'⟩

/-- The reducer gives one of its two pairs, and that beats both. -/
theorem reducer_beats (p q : EReal × BitVec 32) :
    (reducer_argmax_f32_i32 (F := Ideal) p q = p ∨ reducer_argmax_f32_i32 (F := Ideal) p q = q)
    ∧ Beats (reducer_argmax_f32_i32 (F := Ideal) p q) p ∧ Beats (reducer_argmax_f32_i32 (F := Ideal) p q) q := by
  rw [reducer_eq]
  split
  next h =>
    refine ⟨.inl rfl, .inr ⟨rfl, le_rfl⟩, ?_⟩
    rcases h with h | ⟨h, hi⟩
    · exact .inl h
    · exact .inr ⟨h, (BitVec.slt_iff_toInt_lt.1 hi).le⟩
  next h =>
    push Not at h
    refine ⟨.inr rfl, ?_, .inr ⟨rfl, le_rfl⟩⟩
    rcases h.1.lt_or_eq with h1 | h1
    · exact .inl h1
    · exact .inr ⟨h1.symm, not_lt.1 fun hi => h.2 h1 (BitVec.slt_iff_toInt_lt.2 hi)⟩

/-- An element belongs to the row its first coordinate names. -/
theorem drop_row (e : S128x100000.Idx) (r : S128.Idx) : Facts₀.reducesTo_S128x100000_S128_d1.drop e = r ↔ (e 0).val = (r 0).val := by
  simp [funext_iff, Fin.ext_iff, Fin.forall_fin_one, Facts₀.reducesTo_S128x100000_S128_d1.drop_apply_val_of_eq e 0 0]

/-- The argmax's operations leave the reduction of pairs, its second part. -/
theorem argmax_eq (V : Vn) : after argmaxLine.1 V (Proc.devRef .tc main_v42) = fun r => (Host.argReduce (reducer_argmax_f32_i32 (F := Ideal))
    (V (Proc.devRef .tc main_v41)) (iotaInDim S128x100000 32 1) (constant S_ .f32 4286578688#32)
    (constantI S_ 32 0#32) Facts₀.reducesTo_S128x100000_S128_d1 Facts₀.h_S_ r).2 := by
  unfold argmaxLine
  after_results_simp
  simp only [TRef.ofBuf_toBuf, TRef.ofBuf, TRef.toBuf, cast_eq]

/-- The arg-max of a row of scores. -/
theorem argmax_best (z : FVec Ideal S128x100000 .f32) (init : FVec Ideal S_ .f32) (hi : ∀ j, init j = (⊥ : EReal)) (ini : IVec S_ 32)
    (r : S128.Idx) (x : ℕ → EReal)
    (hx : ∀ e : S128x100000.Idx, (e 0).val = (r 0).val → x (e 1).val = z e) :
    ∃ v, Best x (· < 100000) v (Host.argReduce (reducer_argmax_f32_i32 (F := Ideal)) z (iotaInDim S128x100000 32 1) init
      ini Facts₀.reducesTo_S128x100000_S128_d1 Facts₀.h_S_ r).2 := by
  have hmem : ∀ e : S128x100000.Idx, (e 0).val = (r 0).val →
      (z e, BitVec.ofNat 32 (e 1).val) ∈ Host.argReduceFiber z (iotaInDim S128x100000 32 1) Facts₀.reducesTo_S128x100000_S128_d1 r := by
    intro e he
    refine List.mem_map.2 ⟨S128x100000.rowMajor e, List.mem_filter.2 ⟨List.mem_finRange _, ?_⟩, ?_⟩
    · rw [Equiv.symm_apply_apply]; exact decide_eq_true ((drop_row e r).2 he)
    · rw [Equiv.symm_apply_apply]; rfl
  have hof : ∀ p ∈ Host.argReduceFiber z (iotaInDim S128x100000 32 1) Facts₀.reducesTo_S128x100000_S128_d1 r,
      ∃ e : S128x100000.Idx, (e 0).val = (r 0).val ∧ p = (z e, BitVec.ofNat 32 (e 1).val) := by
    intro p hp
    obtain ⟨n, hn, rfl⟩ := List.mem_map.1 hp
    exact ⟨S128x100000.rowMajor.symm n, (drop_row _ r).1 (of_decide_eq_true (List.mem_filter.1 hn).2), rfl⟩
  rw [Ideal.argReduce_eq_reduce2, Host.reduce2_eq_foldl_fiber]
  generalize Host.argReduceFiber z (iotaInDim S128x100000 32 1) Facts₀.reducesTo_S128x100000_S128_d1 r = l at hmem hof
  obtain ⟨h1, -, h3⟩ := foldl_picks (op := reducer_argmax_f32_i32 (F := Ideal)) Beats (fun _ => .inr ⟨rfl, le_rfl⟩)
    (fun _ _ _ => Beats.trans) (fun p q => (reducer_beats p q).1) (fun p q => (reducer_beats p q).2.1) (fun p q => (reducer_beats p q).2.2)
    l (init (Shape.Idx.first Facts₀.h_S_), ini (Shape.Idx.first Facts₀.h_S_))
  generalize List.foldl (reducer_argmax_f32_i32 (F := Ideal)) (init (Shape.Idx.first Facts₀.h_S_), ini (Shape.Idx.first Facts₀.h_S_)) l = p at h1 h3 ⊢
  have at_ : ∀ c, c < 100000 → ∃ e : S128x100000.Idx, (e 0).val = (r 0).val ∧ (e 1).val = c := fun c hc =>
    ⟨fun a => match a with | 0 => r 0 | 1 => ⟨c, hc⟩, rfl, rfl⟩
  refine ⟨p.1, fun c hc => ?_, fun hp => ?_⟩
  · obtain ⟨e, he, rfl⟩ := at_ c hc
    rw [hx e he]
    rcases h3 _ (hmem e he) with h | h
    · exact h.le
    · exact h.1.ge
  · rcases h1 with h1 | h1
    · rw [h1, hi] at hp
      exact absurd hp (lt_irrefl _)
    · obtain ⟨e, he, rfl⟩ := hof p h1
      refine ⟨(e 1).val, (e 1).isLt, rfl, hx e he, fun c' hc' hc => ?_⟩
      obtain ⟨e', he', rfl⟩ := at_ c' hc'
      rw [hx e' he'] at hc
      have l1 : (e 1).val < 100000 := (e 1).isLt
      rcases h3 _ (hmem e' he') with h | ⟨-, h⟩
      · exact absurd hc (ne_of_lt (α := EReal) h)
      · rw [toInt_ofNat (by omega), toInt_ofNat (by omega)] at h
        exact Int.ofNat_le.1 h

/-- A row's scores by column. -/
def rscore (lg : FVec Ideal S128x100000 .f32) (r : Fin 128) (c : ℕ) : EReal :=
  if hc : c < 100000 then score (lg fun a => match a with | 0 => r | 1 => ⟨c, hc⟩) (bitsAt (BitVec.ofNat 32 (100000 * r.val + c))) else ⊥

/-- The reference's answer on a row. -/
theorem answer (d : Dev nD) (V : Vn) (lg : FVec Ideal S128x100000 .f32) (y : IVec S128 32) (hlg : V (Proc.devRef .tc main_arg0) = lg)
    (hy : after (mainOps d) V (Proc.devRef .tc main_v42) = y) (r : S128.Idx) : ∃ v, Best (rscore lg (r 0)) (· < 100000) v (y r) := by
  rw [after_two, after_two, after_two, argmax_eq] at hy
  subst hy
  refine argmax_best _ _ (fun _ => ofBits_neg_inf) _ r _ fun e he => ?_
  rw [mid_score d _ lg _ _ _ ((hash_arg0 _).trans ((pre_arg0 _ _).trans hlg)) rfl rfl rfl e, words d V e]
  have he1 : (e 1).val < 100000 := (e 1).isLt
  unfold rscore
  rw [dif_pos he1, he]
  refine congrArg (fun i => score (lg i) _) (funext fun a => ?_)
  match a with
  | 0 => exact Fin.ext he.symm
  | 1 => rfl

end Cert.Proof.Ref
end
end
-- ==== Proof.Tile.lean ====
/- What one tile of 8 rows and 512 columns does, in one text for all 128 tiles of a grid step: the random bits of its
   elements, their perturbed logits, and the two accumulators' new contents. -/
module

public import proofs.«01_k».proof.Proof.BodyIdeal

@[expose] public section

noncomputable section

namespace Cert.Proof.Ideal

open Idealize.ShloMosaic Idealize.SL.Sem Cert.KernelIdeal Cert.KernelIdeal.Gen

variable {F : FTy → Type} [FloatOps F]

/-- A tile of words. -/
abbrev IV := IVec S8x512 32
/-- A word all over a tile. -/
abbrev bc (n : BitVec 32) : IV := broadcast S8x512 n

/-- The hash's rotation, as two shifts. -/
def vrot (n m : BitVec 32) (x : IV) : IV := ori (shli x (bc n)) (shrui x (bc m))

/-! The hash's two words after each round (`l`, `r`) and after each key injection (`p`, `q`), the counters being `y`. -/

/-- The hash's rounds over a tile: `l` and `r` the two words after each round, `p` and `q` after adding the key's words. -/
def l1 (y : IV) : IV := y
def r1 (y : IV) : IV := xori (vrot 13#32 19#32 y) y
def l2 (y : IV) : IV := addi (l1 y) (r1 y)
def r2 (y : IV) : IV := xori (vrot 15#32 17#32 (r1 y)) (l2 y)
def l3 (y : IV) : IV := addi (l2 y) (r2 y)
def r3 (y : IV) : IV := xori (vrot 26#32 6#32 (r2 y)) (l3 y)
def l4 (y : IV) : IV := addi (l3 y) (r3 y)
def r4 (y : IV) : IV := xori (vrot 6#32 26#32 (r3 y)) (l4 y)
def p1 (y : IV) : IV := addi (l4 y) (bc 42#32)
def q1 (y : IV) : IV := addi (r4 y) (bc 466689009#32)
def l5 (y : IV) : IV := addi (p1 y) (q1 y)
def r5 (y : IV) : IV := xori (vrot 17#32 15#32 (q1 y)) (l5 y)
def l6 (y : IV) : IV := addi (l5 y) (r5 y)
def r6 (y : IV) : IV := xori (vrot 29#32 3#32 (r5 y)) (l6 y)
def l7 (y : IV) : IV := addi (l6 y) (r6 y)
def r7 (y : IV) : IV := xori (vrot 16#32 16#32 (r6 y)) (l7 y)
def l8 (y : IV) : IV := addi (l7 y) (r7 y)
def r8 (y : IV) : IV := xori (vrot 24#32 8#32 (r7 y)) (l8 y)
def p2 (y : IV) : IV := addi (l8 y) (bc 466689008#32)
def q2 (y : IV) : IV := addi (r8 y) (bc 2#32)
def l9 (y : IV) : IV := addi (p2 y) (q2 y)
def r9 (y : IV) : IV := xori (vrot 13#32 19#32 (q2 y)) (l9 y)
def l10 (y : IV) : IV := addi (l9 y) (r9 y)
def r10 (y : IV) : IV := xori (vrot 15#32 17#32 (r9 y)) (l10 y)
def l11 (y : IV) : IV := addi (l10 y) (r10 y)
def r11 (y : IV) : IV := xori (vrot 26#32 6#32 (r10 y)) (l11 y)
def l12 (y : IV) : IV := addi (l11 y) (r11 y)
def r12 (y : IV) : IV := xori (vrot 6#32 26#32 (r11 y)) (l12 y)
def p3 (y : IV) : IV := addi (l12 y) (bc 0#32)
def q3 (y : IV) : IV := addi (r12 y) (bc 45#32)
def l13 (y : IV) : IV := addi (p3 y) (q3 y)
def r13 (y : IV) : IV := xori (vrot 17#32 15#32 (q3 y)) (l13 y)
def l14 (y : IV) : IV := addi (l13 y) (r13 y)
def r14 (y : IV) : IV := xori (vrot 29#32 3#32 (r13 y)) (l14 y)
def l15 (y : IV) : IV := addi (l14 y) (r14 y)
def r15 (y : IV) : IV := xori (vrot 16#32 16#32 (r14 y)) (l15 y)
def l16 (y : IV) : IV := addi (l15 y) (r15 y)
def r16 (y : IV) : IV := xori (vrot 24#32 8#32 (r15 y)) (l16 y)
def p4 (y : IV) : IV := addi (l16 y) (bc 42#32)
def q4 (y : IV) : IV := addi (r16 y) (bc 466689012#32)
def l17 (y : IV) : IV := addi (p4 y) (q4 y)
def r17 (y : IV) : IV := xori (vrot 13#32 19#32 (q4 y)) (l17 y)
def l18 (y : IV) : IV := addi (l17 y) (r17 y)
def r18 (y : IV) : IV := xori (vrot 15#32 17#32 (r17 y)) (l18 y)
def l19 (y : IV) : IV := addi (l18 y) (r18 y)
def r19 (y : IV) : IV := xori (vrot 26#32 6#32 (r18 y)) (l19 y)
def l20 (y : IV) : IV := addi (l19 y) (r19 y)
def r20 (y : IV) : IV := xori (vrot 6#32 26#32 (r19 y)) (l20 y)
def p5 (y : IV) : IV := addi (l20 y) (bc 466689008#32)
def q5 (y : IV) : IV := addi (r20 y) (bc 5#32)

/-- A tile's random words. -/
def vbits (y : IV) : IV := xori (p5 y) (q5 y)

/-- The first column of tile `C` of grid step `i`, and that of the tile's first counter in row block `R`. -/
def col0 (i : grid0.Coords) (C : BitVec 32) : BitVec 32 :=
  Scalar.addi (Scalar.muli (BitVec.ofNat 32 (i 0).val) 4096#32) (Scalar.muli C 512#32)
/-- The flat index of a tile's first element. -/
def flat0 (i : grid0.Coords) (R C : BitVec 32) : BitVec 32 :=
  Scalar.addi (Scalar.addi (Scalar.muli (Scalar.muli R 8#32) 100000#32) (Scalar.muli (BitVec.ofNat 32 (i 0).val) 4096#32)) (Scalar.muli C 512#32)

/-- A tile's column numbers. -/
def tileCol (i : grid0.Coords) (C : BitVec 32) : IV := addi (iota .tc S8x512 32 [1] iota_S8x512_d1_w32) (bc (col0 i C))

/-- A tile's flat indices. -/
def tileFlat (i : grid0.Coords) (R C : BitVec 32) : IV :=
  addi (addi (addi (muli (iota .tc S8x512 32 [0] iota_S8x512_d0_w32) (bc 100000#32)) (iota .tc S8x512 32 [1] iota_S8x512_d1_w32))
    (bc (flat0 i R C))) (bc 42#32)

/-- The masked perturbed logits of a tile. -/
def tileX (i : grid0.Coords) (R C : BitVec 32) (lg : FVec F S8x512 .f32) : FVec F S8x512 .f32 :=
  select (cmpi .slt (tileCol i C) (bc 100000#32))
    (subf lg (log (subf (broadcast S8x512 (Scalar.ofBits .f32 0x00000000#32))
      (log (addf (subf (bitcastToFloat .f32 (ori (shrui (vbits (tileFlat i R C)) (bc 9#32)) (bc 1065353216#32)))
        (broadcast S8x512 (Scalar.ofBits .f32 0x3F800000#32))) (broadcast S8x512 (Scalar.ofBits .f32 0x2EDBE6FF#32)))))))
    (broadcast S8x512 (Scalar.ofBits .f32 0xFF800000#32))

/-- A tile's new maxima. -/
def tileMax (i : grid0.Coords) (R C : BitVec 32) (lg av : FVec F S8x512 .f32) : FVec F S8x512 .f32 :=
  shapeCast S8x512 (maximumf (tileX i R C lg) av) shapeCasts_S8x512_S8x512

/-- A tile's new indices. -/
def tileIdx (i : grid0.Coords) (R C : BitVec 32) (lg av : FVec F S8x512 .f32) (ai : IV) : IV :=
  shapeCast S8x512 (select (cmpf .ogt (tileX i R C lg) av) (tileCol i C) ai) shapeCasts_S8x512_S8x512

/-- Tile `k` stands in the block at row `8 (k / 8)` and column `512 (k % 8)`. -/
abbrev tileOff (k : ℕ) : Fin 2 → ℕ := ![8 * (k / 8), 512 * (k % 8)]

/-- A tile lies in the block. -/
theorem tile_inb (k : ℕ) (hk : k < 128) (a : Fin 2) : tileOff k a + S8x512.size a ≤ S128x4096.size a := by
  match a with
  | 0 => change 8 * (k / 8) + 8 ≤ 128; omega
  | 1 => change 512 * (k % 8) + 512 ≤ 4096; omega

/-- Tile `k`'s rectangle. -/
abbrev tileRect (k : ℕ) (hk : k < 128) : Rect S128x4096 := Rect.unit (tileOff k) S8x512.size (tile_inb k hk)

/-- The stores of the first `n` tiles, the last store first: tile `k` stores `val k`. -/
def stores {η : EltTy} (val : (k : ℕ) → k < 128 → Vec F S8x512 η) : (n : ℕ) → n ≤ 128 → List (View.Piece (Elt F) S128x4096 η)
  | 0, _ => []
  | n + 1, h => ⟨tileRect n h, val n h⟩ :: stores val n (Nat.le_of_succ_le h)

/-- The running maxima a step begins with: all -inf at the first step, else those found. -/
def start (c : Dev nD) (i : grid0.Coords) (M3 : Memref sig .tc .vmem S128x4096 .f32) (f3 : Bf (F := F) c M3) : Bf (F := F) c M3 :=
  if bodyRun.sl.v2 i = 1#1 then
    M3.view.writes (Elt F) f3 [⟨Rect.unit ![0, 0] S128x4096.size inb_S128x4096_S128x4096_0_0, k0_pay5⟩]
  else f3

/-- Tile `k` read from a buffer. -/
abbrev rd {η : EltTy} (c : Dev nD) (M : Memref sig .tc .vmem S128x4096 η) (f : Bf (F := F) c M) (k : ℕ) (hk : k < 128) : Vec F S8x512 η :=
  View.readAt (Elt F) M.view (tileRect k hk).toLoadRect f

/-- Tile `k`'s row number. -/
abbrev rowOf (k : ℕ) : BitVec 32 := BitVec.ofNat 32 (k / 8)
/-- Tile `k`'s column number. -/
abbrev colOf (k : ℕ) : BitVec 32 := BitVec.ofNat 32 (k % 8)

variable (c : Dev nD) (i : grid0.Coords) (M1 M3 : Memref sig .tc .vmem S128x4096 .f32) (M4 : Memref sig .tc .vmem S128x4096 .i32)
  (f1 : Bf (F := F) c M1) (f3 : Bf (F := F) c M3) (f4 : Bf (F := F) c M4)

set_option maxRecDepth 100000 in
set_option maxHeartbeats 4000000 in
/-- The first accumulator's stores are the 128 tiles' maxima. -/
theorem stores_max : bodyRun.sl.H3_128 c i M1 M3 f1 f3 =
    stores (fun k hk => tileMax i (rowOf k) (colOf k) (rd c M1 f1 k hk) (rd c M3 (start c i M3 f3) k hk)) 128 le_rfl := rfl

set_option maxRecDepth 100000 in
set_option maxHeartbeats 4000000 in
/-- The second accumulator's stores are the 128 tiles' argmaxima. -/
theorem stores_idx : bodyRun.sl.H4_128 c i M1 M3 M4 f1 f3 f4 =
    stores (fun k hk => tileIdx i (rowOf k) (colOf k) (rd c M1 f1 k hk) (rd c M3 (start c i M3 f3) k hk) (rd c M4 f4 k hk)) 128 le_rfl := rfl

end Cert.Proof.Ideal
end
end
-- ==== Proof.KernelWords.lean ====
/- A tile's elements: the random word, the perturbed logit, and the accumulators' new values at one place of a tile. -/
module

public import proofs.«01_k».proof.Proof.Tile
public import proofs.«01_k».proof.Proof.Score
public import proofs.«01_k».proof.Proof.First
public import Idealize.ShloMosaic.PureOps.Ideal.Laws
public import Idealize.ShloMosaic.Lib.IdealHost
public import Idealize.ShloMosaic.Lib.Pointwise.Reshape

@[expose] public section

noncomputable section

namespace Cert.Proof.Ideal

open Idealize.ShloMosaic Idealize.SL.Sem Cert.KernelIdeal Cert.KernelIdeal.Gen

section
variable {l r : IV} {e : S8x512.Idx} {n m a b : W} {p : W × W}

/-- A tile's rotation, at one element. -/
theorem vrot_at (hn : n.toNat < 32) (hm : m.toNat < 32) : vrot n m r e = rot n m (r e) := by
  change (if n.toNat < 32 then r e <<< n else _) ||| (if m.toNat < 32 then r e >>> m else _) = _
  rw [if_pos hn, if_pos hm]; rfl

/-- One round, at one element. -/
theorem kround (hn : n.toNat < 32) (hm : m.toNat < 32) (h : (l e, r e) = p) :
    (addi l r e, xori (vrot n m r) (addi l r) e) = rnd n m p := by
  subst h
  change (l e + r e, vrot n m r e ^^^ (l e + r e)) = (l e + r e, (l e + r e) ^^^ rot n m (r e))
  rw [vrot_at hn hm, BitVec.xor_comm]

/-- The first round, whose left word is the right one since the counter's upper word is 0. -/
theorem kfirst (hn : n.toNat < 32) (hm : m.toNat < 32) : (r e, xori (vrot n m r) r e) = rnd n m (0#32, r e) := by
  change (r e, vrot n m r e ^^^ r e) = (0#32 + r e, (0#32 + r e) ^^^ rot n m (r e))
  rw [vrot_at hn hm, BitVec.xor_comm, BitVec.zero_add]

/-- Adding two of the key's words, at one element. -/
theorem kinj (h : (l e, r e) = p) : (addi l (bc a) e, addi r (bc b) e) = inj a b p := by
  subst h; rfl
end

/-- The tile's random word is the hash of the element's place. -/
theorem vbits_at (y : IV) (e : S8x512.Idx) (n : W) (h : y e = n + 42#32) : vbits y e = bitsAt n := by
  have key : (p5 y e, q5 y e) = threefry 0#32 42#32 466689008#32 0#32 n := by
    unfold threefry roundsA roundsB
    rw [← h, show (0#32 + 0#32 : W) = 0#32 from rfl, show (0#32 + 5#32 : W) = 5#32 from rfl,
      show (466689008#32 + 4#32 : W) = 466689012#32 from rfl, show (42#32 + 3#32 : W) = 45#32 from rfl,
      show (0#32 + 2#32 : W) = 2#32 from rfl, show (466689008#32 + 1#32 : W) = 466689009#32 from rfl]
    refine kinj (l := l20 y) (r := r20 y) ?_
    refine kround (l := l19 y) (r := r19 y) (by decide) (by decide) ?_
    refine kround (l := l18 y) (r := r18 y) (by decide) (by decide) ?_
    refine kround (l := l17 y) (r := r17 y) (by decide) (by decide) ?_
    refine kround (l := p4 y) (r := q4 y) (by decide) (by decide) ?_
    refine kinj (l := l16 y) (r := r16 y) ?_
    refine kround (l := l15 y) (r := r15 y) (by decide) (by decide) ?_
    refine kround (l := l14 y) (r := r14 y) (by decide) (by decide) ?_
    refine kround (l := l13 y) (r := r13 y) (by decide) (by decide) ?_
    refine kround (l := p3 y) (r := q3 y) (by decide) (by decide) ?_
    refine kinj (l := l12 y) (r := r12 y) ?_
    refine kround (l := l11 y) (r := r11 y) (by decide) (by decide) ?_
    refine kround (l := l10 y) (r := r10 y) (by decide) (by decide) ?_
    refine kround (l := l9 y) (r := r9 y) (by decide) (by decide) ?_
    refine kround (l := p2 y) (r := q2 y) (by decide) (by decide) ?_
    refine kinj (l := l8 y) (r := r8 y) ?_
    refine kround (l := l7 y) (r := r7 y) (by decide) (by decide) ?_
    refine kround (l := l6 y) (r := r6 y) (by decide) (by decide) ?_
    refine kround (l := l5 y) (r := r5 y) (by decide) (by decide) ?_
    refine kround (l := p1 y) (r := q1 y) (by decide) (by decide) ?_
    refine kinj (l := l4 y) (r := r4 y) ?_
    refine kround (l := l3 y) (r := r3 y) (by decide) (by decide) ?_
    refine kround (l := l2 y) (r := r2 y) (by decide) (by decide) ?_
    refine kround (l := l1 y) (r := r1 y) (by decide) (by decide) ?_
    exact kfirst (r := y) (by decide) (by decide)
  change (p5 y e, q5 y e).1 ^^^ (p5 y e, q5 y e).2 = _
  rw [key]; rfl

variable (i : grid0.Coords) (k : ℕ) (hk : k < 128) (e : S8x512.Idx)

/-- The column of a tile's element. -/
def place : ℕ := 4096 * (i 0).val + (512 * (k % 8) + (e 1).val)

/-- The row of a tile's element. -/
def line : ℕ := 8 * (k / 8) + (e 0).val

/-- A column of the padded row. -/
theorem place_lt : place i k e < 102400 := by
  have h0 : (i 0).val < 25 := (i 0).isLt
  have h1 : (e 1).val < 512 := (e 1).isLt
  unfold place; omega

/-- The tile's column numbers. -/
theorem tileCol_at : tileCol i (colOf k) e = BitVec.ofNat 32 (place i k e) := by
  have h1 : (e 1).val < 512 := (e 1).isLt
  change BitVec.ofNat 32 (0 * 512 + (e 1).val) + (BitVec.ofNat 32 (i 0).val * 4096#32 + BitVec.ofNat 32 (k % 8) * 512#32) = _
  apply BitVec.eq_of_toNat_eq
  simp only [BitVec.toNat_add, BitVec.toNat_mul, BitVec.toNat_ofNat, place]
  omega

/-- The tile's flat indices, the key's second word added. -/
theorem tileFlat_at : tileFlat i (rowOf k) (colOf k) e = BitVec.ofNat 32 (100000 * line k e + place i k e) + 42#32 := by
  change BitVec.ofNat 32 (0 * 8 + (e 0).val) * 100000#32 + BitVec.ofNat 32 (0 * 512 + (e 1).val)
    + (BitVec.ofNat 32 (k / 8) * 8#32 * 100000#32 + BitVec.ofNat 32 (i 0).val * 4096#32 + BitVec.ofNat 32 (k % 8) * 512#32) + 42#32 = _
  congr 1
  apply BitVec.eq_of_toNat_eq
  simp only [BitVec.toNat_add, BitVec.toNat_mul, BitVec.toNat_ofNat, place, line]
  omega

/-- The masked perturbed logit at a place: nothing past the array's edge. -/
def kscore (r : ℕ) (lg : EReal) (c : ℕ) : EReal :=
  if c < 100000 then score lg (bitsAt (BitVec.ofNat 32 (100000 * r + c))) else ⊥

/-- The comparison with the row's length, signed, is the comparison of numbers. -/
theorem slt_at {c : ℕ} (h : c < 102400) : IntOp.cmpi .slt (BitVec.ofNat 32 c) 100000#32 = BitVec.ofBool (decide (c < 100000)) := by
  have h' : (100000#32).toInt = 100000 := toInt_ofNat (c := 100000) (by omega)
  have e : (BitVec.ofNat 32 c).slt 100000#32 = decide (c < 100000) := by
    unfold BitVec.slt
    rw [toInt_ofNat (show c < 2 ^ 31 by omega), h']
    exact decide_eq_decide.2 (by omega)
  exact congrArg BitVec.ofBool e

/-- The masked perturbed logits of a tile, of its columns and its random words. -/
def maskX (col w : IV) (lg : FVec Ideal S8x512 .f32) : FVec Ideal S8x512 .f32 :=
  select (cmpi .slt col (bc 100000#32))
    (subf lg (log (subf (broadcast S8x512 (Scalar.ofBits .f32 0x00000000#32))
      (log (addf (subf (bitcastToFloat .f32 (ori (shrui w (bc 9#32)) (bc 1065353216#32)))
        (broadcast S8x512 (Scalar.ofBits .f32 0x3F800000#32))) (broadcast S8x512 (Scalar.ofBits .f32 0x2EDBE6FF#32)))))))
    (broadcast S8x512 (Scalar.ofBits .f32 0xFF800000#32))

/-- The masked score as a function of column, word and logit. -/
theorem tileX_eq (R C : BitVec 32) (lg : FVec Ideal S8x512 .f32) :
    tileX i R C lg = maskX (tileCol i C) (vbits (tileFlat i R C)) lg := rfl

/-- The masked score at one element: the score inside the row, minus infinity past its end. -/
theorem maskX_at (col w : IV) (lg : FVec Ideal S8x512 .f32) {c : ℕ} (hc : c < 102400) (h : col e = BitVec.ofNat 32 c) :
    maskX col w lg e = if c < 100000 then score (lg e) (w e) else ⊥ := by
  have hw : ori (shrui w (bc 9#32)) (bc 1065353216#32) e = w e >>> 9#32 ||| 1065353216#32 := by
    have h9 : IntOp.shrui .vector (w e) 9#32 = w e >>> 9#32 := by rw [IntOp.shrui, if_pos (by decide)]
    simp only [ori, shrui, broadcast, h9]
    rfl
  unfold maskX
  simp only [select, cmpi, h, slt_at hc, subf, log, addf, broadcast, bitcastToFloat, hw, Scalar.select]
  simp only [subf_eq, log_eq, addf_eq, ofBits_eq, Ideal.ofBits_zero_f32, Ideal.ofBits_one_f32, ofBits_neg_inf, score_eq]
  by_cases hc : c < 100000 <;> simp [hc]

/-- A tile's masked score at one element. -/
theorem tileX_at (lg : FVec Ideal S8x512 .f32) :
    tileX i (rowOf k) (colOf k) lg e = kscore (line k e) (lg e) (place i k e) := by
  rw [tileX_eq, maskX_at e _ _ lg (place_lt i k e) (tileCol_at i k e), vbits_at _ _ _ (tileFlat_at i k e)]
  rfl

/-- A tile's new maxima at one element. -/
theorem tileMax_at (lg av : FVec Ideal S8x512 .f32) :
    tileMax i (rowOf k) (colOf k) lg av e = max (kscore (line k e) (lg e) (place i k e)) (av e) := by
  unfold tileMax
  rw [shapeCast_id, ← tileX_at]
  rfl

/-- A tile's new indices at one element. -/
theorem tileIdx_at (lg av : FVec Ideal S8x512 .f32) (ai : IV) :
    tileIdx i (rowOf k) (colOf k) lg av ai e
      = if av e < kscore (line k e) (lg e) (place i k e) then BitVec.ofNat 32 (place i k e) else ai e := by
  unfold tileIdx
  rw [shapeCast_id, ← tileX_at, ← tileCol_at]
  simp only [select, cmpf, Scalar.select, Ideal.cmpf_def, Ideal.cmp]
  by_cases hc : av e < tileX i (rowOf k) (colOf k) lg e <;> simp [hc]

end Cert.Proof.Ideal
end
end
-- ==== Proof.Step.lean ====
/- One grid step's accumulators, read at an element of the block: the tiles cover the block, each element in one tile. -/
module

public import proofs.«01_k».proof.Proof.KernelWords
public import Idealize.ShloMosaic.Lib.Pipeline.FrameBody

@[expose] public section

noncomputable section

namespace Cert.Proof.Ideal

open Idealize.ShloMosaic Idealize.SL.Sem Cert.KernelIdeal Cert.KernelIdeal.Gen

/-- A tile's element's row. -/
theorem tile_emb0 (k : ℕ) (hk : k < 128) (j : S8x512.Idx) : ((tileRect k hk).emb j 0).val = line k j := by
  rw [Rect.emb_apply]; simp [line]

/-- A tile's element's column in the block. -/
theorem tile_emb1 (k : ℕ) (hk : k < 128) (j : S8x512.Idx) : ((tileRect k hk).emb j 1).val = 512 * (k % 8) + (j 1).val := by
  rw [Rect.emb_apply]; simp

/-- Every element of the block stands in a tile. -/
theorem exists_tile (e : S128x4096.Idx) : ∃ (k : ℕ) (hk : k < 128) (j : S8x512.Idx), e = (tileRect k hk).emb j := by
  have h0 : (e 0).val < 128 := (e 0).isLt
  have h1 : (e 1).val < 4096 := (e 1).isLt
  refine ⟨8 * ((e 0).val / 8) + (e 1).val / 512, by omega, fun a => match a with
    | 0 => ⟨(e 0).val % 8, Nat.mod_lt _ (by decide)⟩
    | 1 => ⟨(e 1).val % 512, Nat.mod_lt _ (by decide)⟩, funext fun a => Fin.ext ?_⟩
  match a with
  | 0 => exact Eq.trans (by unfold line; simp only; omega) (tile_emb0 _ _ _).symm
  | 1 => exact Eq.trans (by simp only; omega) (tile_emb1 _ _ _).symm

/-- The stores of the tiles, read in a tile. -/
theorem canon_stores {η : EltTy} (val : (k : ℕ) → k < 128 → Vec Ideal S8x512 η) (n : ℕ) (h : n ≤ 128) (k : ℕ) (hk : k < 128) (hkn : k < n)
    (j : S8x512.Idx) : View.canon (stores val n h) ((tileRect k hk).emb j) = val k hk j := by
  induction n with
  | zero => omega
  | succ n ih =>
    rcases Nat.lt_or_ge k n with hlt | hge
    · refine (View.canon_cons_of_not_mem _ _ ?_).trans (ih _ hlt)
      intro hm
      have hm := (Rect.mem_set_unit (inb := tile_inb n h)).1 hm
      have m0 := hm 0
      have m1 := hm 1
      rw [tile_emb0] at m0
      rw [tile_emb1] at m1
      have j0 : (j 0).val < 8 := (j 0).isLt
      have j1 : (j 1).val < 512 := (j 1).isLt
      have n0 : 8 * (n / 8) ≤ line k j ∧ line k j < 8 * (n / 8) + 8 := m0
      have n1 : 512 * (n % 8) ≤ 512 * (k % 8) + (j 1).val ∧ 512 * (k % 8) + (j 1).val < 512 * (n % 8) + 512 := m1
      unfold line at n0
      omega
    · obtain rfl : k = n := by omega
      exact View.canon_cons_emb _ _ _ _

variable (c : Dev nD) (i : grid0.Coords) (M1 M3 : Memref sig .tc .vmem S128x4096 .f32) (M4 : Memref sig .tc .vmem S128x4096 .i32)
  (f1 : Bf (F := Ideal) c M1) (f3 : Bf (F := Ideal) c M3) (f4 : Bf (F := Ideal) c M4) (e : S128x4096.Idx)

/-- The running maximum after the step. -/
theorem max_at : View.canon (bodyRun.sl.H3_128 c i M1 M3 f1 f3) e
    = max (kscore (e 0).val (M1.view.read (Elt Ideal) f1 e) (4096 * (i 0).val + (e 1).val)) (M3.view.read (Elt Ideal) (start c i M3 f3) e) := by
  obtain ⟨k, hk, j, rfl⟩ := exists_tile e
  rw [stores_max, canon_stores _ _ _ k hk hk, tileMax_at, tile_emb0, tile_emb1]
  rfl

/-- The running index after the step. -/
theorem idx_at : View.canon (bodyRun.sl.H4_128 c i M1 M3 M4 f1 f3 f4) e
    = if M3.view.read (Elt Ideal) (start c i M3 f3) e < kscore (e 0).val (M1.view.read (Elt Ideal) f1 e) (4096 * (i 0).val + (e 1).val)
      then BitVec.ofNat 32 (4096 * (i 0).val + (e 1).val) else M4.view.read (Elt Ideal) f4 e := by
  obtain ⟨k, hk, j, rfl⟩ := exists_tile e
  rw [stores_idx, canon_stores _ _ _ k hk hk, tileIdx_at, tile_emb0, tile_emb1]
  rfl

end Cert.Proof.Ideal
end
end
-- ==== Proof.Pick.lean ====
/- The kernel's last step on a row: the least index among the lanes holding the row's maximum. -/
module

public import proofs.«01_k».proof.Proof.KernelWords
public import Idealize.ShloMosaic.Lib.ValueLayoutCasts

@[expose] public section

noncomputable section

namespace Cert.Proof.Ideal

open Idealize.ShloMosaic Cert.KernelIdeal Cert.KernelIdeal.Gen

variable (av : FVec Ideal S128x4096 .f32) (ai : IVec S128x4096 32) (r : S128x1.Idx)

/-- A row's maximum. -/
def rowMax (j : S128.Idx) : EReal := multiReduction .maximumf [1] S128 av 0xFF800000#32 reduces_S128x4096_S128 (.inl rfl) rfl j

/-- An element belongs to the row its first coordinate names. -/
theorem drop_row (e : S128x4096.Idx) (j : S128.Idx) : reduces_S128x4096_S128.drop e = j ↔ (e 0).val = (j 0).val := by
  simp [funext_iff, Fin.ext_iff, Fin.forall_fin_one, reduces_S128x4096_S128.drop_apply_val_of_eq e 0 0]

/-- The row's maximum is a lane's value, and at least every lane's. -/
theorem rowMax_spec (j : S128.Idx) (l : Fin 4096) :
    (∃ l' : Fin 4096, av (ValueIdx.ix2 (j 0) l') = rowMax av j) ∧ av (ValueIdx.ix2 (j 0) l) ≤ rowMax av j := by
  have hf : rowMax av j = (Finset.univ.filter fun e => reduces_S128x4096_S128.drop e = j).fold
      (FloatOps.maximumf (F := Ideal) (φ := .f32)) (FloatOps.ofBits .f32 0xFF800000#32) av :=
    multiReduction_maximumf_eq_fold _ _ _ _ _ _
  obtain ⟨h1, h2, h3⟩ := fold_picks (op := FloatOps.maximumf (F := Ideal) (φ := .f32)) (fun a b : EReal => b ≤ a)
    (fun _ => le_rfl) (fun _ _ _ h h' => h'.trans h) (fun a b => max_choice (α := EReal) a b) (fun a b => le_max_left (α := EReal) a b)
    (fun a b => le_max_right (α := EReal) a b) (FloatOps.ofBits .f32 0xFF800000#32) av (Finset.univ.filter fun e => reduces_S128x4096_S128.drop e = j)
  rw [← hf] at h1 h2 h3
  have h4 : ∀ l : Fin 4096, av (ValueIdx.ix2 (j 0) l) ≤ rowMax av j := fun l => h3 _ (Finset.mem_filter.2 ⟨Finset.mem_univ _, (drop_row _ _).2 rfl⟩)
  refine ⟨?_, h4 l⟩
  rcases h1 with h1 | ⟨e, he, h1⟩
  · have hb : rowMax av j = ⊥ := h1.trans ofBits_neg_inf
    exact ⟨l, le_antisymm (h4 l) (hb ▸ bot_le)⟩
  · refine ⟨e 1, ?_⟩
    have he := (drop_row _ _).1 (Finset.mem_filter.1 he).2
    rw [h1]
    refine congrArg av (funext fun a => ?_)
    match a with
    | 0 => exact Fin.ext he.symm
    | 1 => rfl

/-- The indices the last minimum runs over. -/
def sel (e : S128x4096.Idx) : BitVec 32 := if av e = rowMax av (ValueIdx.ix1 (e 0)) then ai e else 2147483647#32

/-- The kernel's selected indices are `sel`. -/
theorem sel_eq : (select (cmpf .oeq av (broadcastTo S128x4096 (shapeCast S128x1 (rowMax av : FVec Ideal S128 .f32) shapeCasts_S128_S128x1)
    broadcasts_S128x1_S128x4096)) ai (broadcast S128x4096 2147483647#32) : IVec S128x4096 32) = sel av ai := by
  funext e
  have hb : broadcastTo S128x4096 (shapeCast S128x1 (rowMax av : FVec Ideal S128 .f32) shapeCasts_S128_S128x1) broadcasts_S128x1_S128x4096 e
      = rowMax av (ValueIdx.ix1 (e 0)) := by
    refine (broadcastTo_apply _ _ e (ValueIdx.ix2 (e 0) (0 : Fin 1)) fun a => ?_).trans (ValueIdx.shapeCast_a_a1_apply _ _ _ _)
    match a with
    | 0 => rfl
    | 1 => rfl
  unfold sel
  show Scalar.select (Ideal.cmp .oeq (av e) (broadcastTo S128x4096 (shapeCast S128x1 (rowMax av : FVec Ideal S128 .f32) shapeCasts_S128_S128x1) broadcasts_S128x1_S128x4096 e)) (ai e) _ = _
  rw [hb]
  by_cases h : av e = rowMax av (ValueIdx.ix1 (e 0))
  · simp [Ideal.cmp, Scalar.select, h]
  · simp [Ideal.cmp, Scalar.select, h, broadcast]

/-- The row of an element of the result's column. -/
def rowIx : S128.Idx := ValueIdx.ix1 (r 0)

/-- The last store is the least of the selected indices. -/
theorem pay4_eq : k0_pay4 (F := Ideal) av ai r = multiReductionI .minsi [1] S128 (sel av ai) 2147483647#32 reduces_S128x4096_S128 rfl (rowIx r) := by
  have hr : r = ValueIdx.ix2 (r 0) (r 1) := funext fun a => match a with | 0 => rfl | 1 => rfl
  rw [← sel_eq]
  refine (congrArg (k0_pay4 (F := Ideal) av ai) hr).trans (Eq.trans ?_ (ValueIdx.shapeCast_a_a1_apply (multiReductionI .minsi [1] S128
    (select (cmpf .oeq av (broadcastTo S128x4096 (shapeCast S128x1 (rowMax av : FVec Ideal S128 .f32) shapeCasts_S128_S128x1)
    broadcasts_S128x1_S128x4096)) ai (broadcast S128x4096 2147483647#32) : IVec S128x4096 32) 2147483647#32 reduces_S128x4096_S128 rfl)
    shapeCasts_S128_S128x1 (r 0) (r 1)))
  unfold k0_pay4
  rfl

/-- The signed minimum of two words is one of them, and at most both. -/
theorem minsi_le (a b : BitVec 32) : (IntOp.minsi a b = a ∨ IntOp.minsi a b = b) ∧ (IntOp.minsi a b).toInt ≤ a.toInt ∧ (IntOp.minsi a b).toInt ≤ b.toInt := by
  unfold IntOp.minsi
  by_cases h : a.slt b
  · rw [if_pos h]; exact ⟨.inl rfl, le_rfl, (BitVec.slt_iff_toInt_lt.1 h).le⟩
  · rw [if_neg h]; exact ⟨.inr rfl, not_lt.1 fun h' => h (BitVec.slt_iff_toInt_lt.2 h'), le_rfl⟩

/-- A row's answer, from what each lane holds of it. -/
theorem pay4_best {x : ℕ → EReal} {S : ℕ → Prop} {T : Fin 4096 → ℕ → Prop}
    (h : ∀ l : Fin 4096, Best x (T l) (av (ValueIdx.ix2 (r 0) l)) (ai (ValueIdx.ix2 (r 0) l))) (hS : ∀ c, S c ↔ ∃ l, T l c) (hb : ∀ c, S c → c < 2 ^ 31) :
    ∃ v, Best x S v (k0_pay4 (F := Ideal) av ai r) := by
  have hf : k0_pay4 (F := Ideal) av ai r = (Finset.univ.filter fun e => reduces_S128x4096_S128.drop e = rowIx r).fold
      IKind.minsi.op 2147483647#32 (sel av ai) := (pay4_eq av ai r).trans (multiReductionI_eq_fold _ _ _ _ _ _)
  obtain ⟨h1, h2, h3⟩ := fold_picks (op := IntOp.minsi) (fun a b : BitVec 32 => a.toInt ≤ b.toInt)
    (fun _ => le_rfl) (fun _ _ _ h h' => h.trans h') (fun a b => (minsi_le a b).1) (fun a b => (minsi_le a b).2.1)
    (fun a b => (minsi_le a b).2.2) 2147483647#32 (sel av ai) (Finset.univ.filter fun e => reduces_S128x4096_S128.drop e = rowIx r)
  have hf' : k0_pay4 (F := Ideal) av ai r = (Finset.univ.filter fun e => reduces_S128x4096_S128.drop e = rowIx r).fold
      IntOp.minsi 2147483647#32 (sel av ai) := hf
  rw [← hf'] at h1 h2 h3
  generalize k0_pay4 (F := Ideal) av ai r = w at h1 h2 h3
  have hle : ∀ l : Fin 4096, av (ValueIdx.ix2 (r 0) l) ≤ rowMax av (rowIx r) := fun l => (rowMax_spec av (rowIx r) l).2
  have hmin : ∀ l : Fin 4096, av (ValueIdx.ix2 (r 0) l) = rowMax av (rowIx r) → w.toInt ≤ (ai (ValueIdx.ix2 (r 0) l)).toInt := by
    intro l hl
    have := h3 (ValueIdx.ix2 (r 0) l) (Finset.mem_filter.2 ⟨Finset.mem_univ _, (drop_row _ _).2 rfl⟩)
    rwa [show sel av ai (ValueIdx.ix2 (r 0) l) = ai (ValueIdx.ix2 (r 0) l) from if_pos hl] at this
  have htop : w = 2147483647#32 → ∃ l : Fin 4096, av (ValueIdx.ix2 (r 0) l) = rowMax av (rowIx r) ∧ w = ai (ValueIdx.ix2 (r 0) l) := by
    intro hw
    obtain ⟨l, hl⟩ := (rowMax_spec av (rowIx r) 0).1
    refine ⟨l, hl, BitVec.eq_of_toInt_eq (le_antisymm (hmin l hl) ?_)⟩
    rw [hw]
    have := BitVec.toInt_lt (x := ai (ValueIdx.ix2 (r 0) l))
    have e : (2147483647#32).toInt = ((2147483647 : ℕ) : ℤ) := toInt_ofNat (c := 2147483647) (by norm_num)
    rw [e]; norm_num at this ⊢; omega
  refine ⟨rowMax av (rowIx r), Best.lanes h hS hb hle ?_ hmin⟩
  rcases h1 with h1 | ⟨e, he, h1⟩
  · exact htop h1
  · have he := (drop_row _ _).1 (Finset.mem_filter.1 he).2
    have he' : e = ValueIdx.ix2 (r 0) (e 1) := funext fun a => match a with | 0 => Fin.ext he | 1 => rfl
    by_cases hs : av e = rowMax av (ValueIdx.ix1 (e 0))
    · rw [he'] at hs
      exact ⟨e 1, hs, h1.trans ((if_pos (he' ▸ hs)).trans (congrArg ai he'))⟩
    · exact htop (h1.trans (if_neg hs))

end Cert.Proof.Ideal
end
end
-- ==== Proof.Block.lean ====
/- The logits' block at a grid point, read in place. -/
module

public import proofs.«01_k».proof.Proof.FrameIdeal
public import proofs.«01_k».proof.Proof.RefScore
public import proofs.«01_k».proof.Proof.Step
public import proofs.«01_k».proof.Proof.Pick
public import Idealize.ShloMosaic.Lib.Pipeline.ValueKit

@[expose] public section

noncomputable section

namespace Cert.Proof.Ideal

open Idealize.ShloMosaic Idealize.SL.Sem Cert.KernelIdeal Cert.KernelIdeal.Gen

/-- The grid's one coordinate at a point is the point's number. -/
theorem coord (t : Fin cfg0.N) : (grid0.coords t 0).val = t.val := by
  have := Pipeline.Grid.coords_val (G := grid0) t 0 (S := 1) (B := 25) rfl rfl
  have ht : t.val < 25 := t.isLt
  omega

variable (m : (ℓ : Loc nD τ sig) → Buf (Elt Ideal) ℓ)

/-- A place of the logits. -/
def at_ (r : Fin 128) (c : ℕ) (hc : c < 100000) : S128x100000.Idx := fun a => match a with | 0 => r | 1 => ⟨c, hc⟩

/-- A column inside the array is inside what is fetched of its block. -/
theorem lt_extent {ix k d j : ℕ} (hj : j < k) (h : ix * k + j < d) : j < (Pipeline.Clip.of ix k d).extent k := by
  unfold Pipeline.Clip.of
  split
  · exact hj
  · show j < d - ix * k; omega

/-- The logits' block is at row block 0. -/
theorem map0 (t : Fin cfg0.N) : cc0_transform_0 (grid0.coords t) 0 = 0 := rfl

/-- The logits' block at point `t` is column block `t`. -/
theorem map1 (t : Fin cfg0.N) : cc0_transform_0 (grid0.coords t) 1 = t.val := by
  show (BitVec.ofNat 32 (grid0.coords t 0).val).toNat = _
  have ht : t.val < 25 := t.isLt
  rw [coord, BitVec.toNat_ofNat, Nat.mod_eq_of_lt (by omega)]

/-- The block at a point holds the logits' columns from 4096 times the point on. -/
theorem block_at (c : Dev nD) (t : Fin cfg0.N) (d : S128x4096.Idx → EReal) (e : S128x4096.Idx) (h : 4096 * t.val + (e 1).val < 100000) :
    win0_0.fill (grid0.coords t) d (iblk m c 0 t) e = m ((c.tc : Thread nD τ).loc main_arg0) (at_ (e 0) _ h) := by
  have h0 : (e 0).val < 128 := (e 0).isLt
  have h1 : (e 1).val < 4096 := (e 1).isLt
  have hm : win0_0.moved (grid0.coords t) e = true := by
    rw [Pipeline.Window.moved_iff]
    intro a
    match a with
    | 0 => exact lt_extent (ix := cc0_transform_0 (grid0.coords t) 0) (k := 128) (d := 128) h0 (by rw [map0]; omega)
    | 1 => exact lt_extent (ix := cc0_transform_0 (grid0.coords t) 1) (k := 4096) (d := 100000) h1 (by rw [map1]; omega)
  unfold Pipeline.Window.fill
  rw [dif_pos hm]
  blk_simp [iblk, V]
  refine congrArg (m ((c.tc : Thread nD τ).loc main_arg0)) (funext fun a => Fin.ext ?_)
  match a with
  | 0 =>
    refine (Pipeline.Window.rect_emb_val win0_0 t _ 0 rfl).trans ?_
    show cc0_transform_0 (grid0.coords t) 0 * 128 + (e 0).val = (e 0).val
    rw [map0]; omega
  | 1 =>
    refine (Pipeline.Window.rect_emb_val win0_0 t _ 1 rfl).trans ?_
    show cc0_transform_0 (grid0.coords t) 1 * 4096 + (e 1).val = 4096 * t.val + (e 1).val
    rw [map1]; omega

/-- What the accumulators hold before a point: of each lane's columns so far, the best. -/
def Inv (lg : FVec Ideal S128x100000 .f32) (t : ℕ) (av : S128x4096.Idx → EReal) (ai : S128x4096.Idx → BitVec 32) : Prop :=
  0 < t → ∀ e : S128x4096.Idx, Best (Ref.rscore lg (e 0)) (fun c => ∃ j < t, c = 4096 * j + (e 1).val) (av e) (ai e)

/-- The kernel's score at a place is the reference's. -/
theorem kscore_eq (c : Dev nD) (t : Fin cfg0.N) (d : S128x4096.Idx → EReal) (e : S128x4096.Idx) :
    kscore (e 0).val (win0_0.fill (grid0.coords t) d (iblk m c 0 t) e) (4096 * t.val + (e 1).val)
      = Ref.rscore (m ((c.tc : Thread nD τ).loc main_arg0)) (e 0) (4096 * t.val + (e 1).val) := by
  unfold kscore Ref.rscore
  by_cases h : 4096 * t.val + (e 1).val < 100000
  · rw [if_pos h, dif_pos h, block_at m c t d e h]; rfl
  · rw [if_neg h, dif_neg h]

/-- One point carries the invariant from `t` to `t + 1`; at point 0 the running maximum starts at minus infinity and the
    indices at anything. -/
theorem inv_step (lg : FVec Ideal S128x100000 .f32) (t : ℕ) (st av' : S128x4096.Idx → EReal) (ai ai' : S128x4096.Idx → BitVec 32)
    (hst : (∀ e, st e = ⊥) ∧ t = 0 ∨ Inv lg t st ai ∧ 0 < t)
    (hv : ∀ e, av' e = max (Ref.rscore lg (e 0) (4096 * t + (e 1).val)) (st e))
    (hi : ∀ e, ai' e = if st e < Ref.rscore lg (e 0) (4096 * t + (e 1).val) then BitVec.ofNat 32 (4096 * t + (e 1).val) else ai e) :
    Inv lg (t + 1) av' ai' := by
  intro _ e
  rw [hv, hi]
  have hb : Best (Ref.rscore lg (e 0)) (fun c => ∃ j < t, c = 4096 * j + (e 1).val) (st e) (ai e) := by
    rcases hst with ⟨h, rfl⟩ | ⟨h, ht⟩
    · rw [h]; exact Best.empty _ (by rintro c ⟨j, hj, -⟩; omega)
    · exact h ht e
  refine Best.step hb ?_ ?_
  · rintro c ⟨j, hj, rfl⟩; omega
  · intro c
    constructor
    · rintro ⟨j, hj, rfl⟩
      by_cases h : j < t
      · exact .inl ⟨j, h, rfl⟩
      · exact .inr (by have : j = t := by omega
                       rw [this])
    · rintro (⟨j, hj, rfl⟩ | rfl)
      · exact ⟨j, by omega, rfl⟩
      · exact ⟨t, by omega, rfl⟩

/-- The kernel's answer on a row, after the last point. -/
theorem inv_answer (lg : FVec Ideal S128x100000 .f32) (av : FVec Ideal S128x4096 .f32) (ai : IVec S128x4096 32) (h : Inv lg 25 av ai) (r : S128x1.Idx) :
    ∃ v, Best (Ref.rscore lg (r 0)) (· < 100000) v (k0_pay4 (F := Ideal) av ai r) := by
  obtain ⟨v, hv⟩ := pay4_best av ai r (x := Ref.rscore lg (r 0)) (S := (· < 102400)) (T := fun l c => ∃ j < 25, c = 4096 * j + l.val)
    (fun l => h (by norm_num) (ValueIdx.ix2 (r 0) l)) (fun c => by
      constructor
      · intro hc; exact ⟨⟨c % 4096, Nat.mod_lt _ (by norm_num)⟩, c / 4096, by omega, by simp only; omega⟩
      · rintro ⟨l, j, hj, rfl⟩; have := l.isLt; omega) (fun c hc => by omega)
  refine ⟨v, fun c hc => hv.le c (by omega), fun hp => ?_⟩
  obtain ⟨c, hc, hi, hx, hm⟩ := hv.att hp
  have hlt : c < 100000 := by
    by_contra hn
    have : Ref.rscore lg (r 0) c = ⊥ := dif_neg hn
    rw [← hx, this] at hp
    exact lt_irrefl _ hp
  exact ⟨c, hlt, hi, hx, fun c' hc' => hm c' (by omega)⟩

end Cert.Proof.Ideal
end
end
-- ==== Proof.ValueIdeal.lean ====
/- The kernel's run with its values: the accumulators' invariant, and the answer at the last point. -/
module

public import proofs.«01_k».proof.Proof.Block

@[expose] public section

noncomputable section

namespace Cert.Proof.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

/-- The first branch is taken at the first point alone. -/
theorem first_iff (t : Fin cfg0.N) : bodyRun.sl.v2 (grid0.coords t) = 1#1 ↔ t.val = 0 := by
  have h : ∀ k : Fin 25, (Scalar.cmpi .ne (Scalar.extui (Scalar.cmpi .eq (BitVec.ofNat 32 k.val) 0#32) : BitVec 32) 0#32 = 1#1 ↔ k.val = 0) := by decide
  have := h ⟨(grid0.coords t 0).val, (grid0.coords t 0).isLt⟩
  rw [← coord t]
  exact this

/-- The last branch is taken at the last point alone. -/
theorem last_iff (t : Fin cfg0.N) : k0_cond2 (grid0.coords t) = 1#1 ↔ t.val = 24 := by
  have h : ∀ k : Fin 25, (Scalar.cmpi .ne (Scalar.extui (Scalar.cmpi .eq (BitVec.ofNat 32 k.val) 24#32) : BitVec 32) 0#32 = 1#1 ↔ k.val = 24) := by decide
  have := h ⟨(grid0.coords t 0).val, (grid0.coords t 0).isLt⟩
  rw [← coord t]
  exact this

section
variable (c : Dev nD) (M1 M3 : Memref sig .tc .vmem S128x4096 .f32) (M4 : Memref sig .tc .vmem S128x4096 .i32)
  (f1 : Bf (F := Ideal) c M1) (f3 : Bf (F := Ideal) c M3) (f4 : Bf (F := Ideal) c M4)

/-- After the first branch the maxima are minus infinity. -/
theorem start_first (i : grid0.Coords) (h : bodyRun.sl.v2 i = 1#1) (e : S128x4096.Idx) : M3.view.read (Elt Ideal) (start c i M3 f3) e = (⊥ : EReal) := by
  unfold start
  rw [if_pos h, View.read_writes_eq_canon, View.canon_cons_unit_lit]
  · refine (congrFun (shapeCast_id (broadcast S128x4096 (Scalar.ofBits (F := Ideal) .f32 0xFF800000#32)) _) e).trans ?_
    exact ofBits_neg_inf
  · intro a; match a with | 0 => rfl | 1 => rfl
  · intro y
    exact ⟨_, List.mem_singleton_self _, (Rect.mem_set_unit (inb := inb_S128x4096_S128x4096_0_0)).2 fun a => match a with
      | 0 => ⟨Nat.zero_le _, by simpa using (y 0).isLt⟩ | 1 => ⟨Nat.zero_le _, by simpa using (y 1).isLt⟩⟩

variable (m : (ℓ : Loc nD τ sig) → Buf (Elt Ideal) ℓ)

section
variable (i : grid0.Coords) (h1 : M1.IsWhole) (M2 : Memref sig .tc .vmem S128x1 .i32) (h2 : M2.IsWhole) (h3 : M3.IsWhole) (h4 : M4.IsWhole)
  (f2 : Bf (F := Ideal) c M2)

/-- What the body leaves of the maxima. -/
theorem run_max : M3.view.read (Elt Ideal) (bodyRun c i M1 h1 M2 h2 M3 h3 M4 h4 f1 f2 f3 f4).1.2.1 = View.canon (bodyRun.sl.H3_128 c i M1 M3 f1 f3) :=
  View.read_writes_junk_eq_canon _ _

/-- What the body leaves of the indices. -/
theorem run_idx : M4.view.read (Elt Ideal) (bodyRun c i M1 h1 M2 h2 M3 h3 M4 h4 f1 f2 f3 f4).1.2.2
    = View.canon (bodyRun.sl.H4_128 c i M1 M3 M4 f1 f3 f4) :=
  View.read_writes_junk_eq_canon _ _

/-- Before the last point the result's buffer is left as found. -/
theorem run_idle (h : ¬k0_cond2 i = 1#1) : (bodyRun c i M1 h1 M2 h2 M3 h3 M4 h4 f1 f2 f3 f4).1.1 = f2 := dif_neg h

/-- At the last point the result's buffer holds the row's least index. -/
theorem run_last (h : k0_cond2 i = 1#1) : M2.view.read (Elt Ideal) (bodyRun c i M1 h1 M2 h2 M3 h3 M4 h4 f1 f2 f3 f4).1.1
    = k0_pay4 (View.canon (bodyRun.sl.H3_128 c i M1 M3 f1 f3)) (View.canon (bodyRun.sl.H4_128 c i M1 M3 M4 f1 f3 f4)) := by
  refine (congrArg (M2.view.read (Elt Ideal)) (dif_pos h)).trans ?_
  rw [View.read_writes_eq_canon, View.canon_cons_unit_lit]
  · have e : ∀ {η : EltTy} (M : Memref sig .tc .vmem S128x4096 η) (L : List (View.Piece (Elt Ideal) S128x4096 η)),
        M.view.readCov L (Rect.unit ![0, 0] S128x4096.size inb_S128x4096_S128x4096_0_0).toLoadRect = View.canon L := by
      intro η M L
      rw [View.readCov_eq_canon']
      refine funext fun j => congrArg (View.canon L) (funext fun a => Fin.ext ?_)
      match a with
      | 0 => simp
      | 1 => simp
    exact congrArg₂ k0_pay4 (e M3 _) (e M4 _)
  · intro a; match a with | 0 => rfl | 1 => rfl
  · intro y
    exact ⟨_, List.mem_singleton_self _, (Rect.mem_set_unit (inb := inb_S128x1_S128x1_0_0)).2 fun a => match a with
      | 0 => ⟨Nat.zero_le _, by simpa using (y 0).isLt⟩ | 1 => ⟨Nat.zero_le _, by simpa using (y 1).isLt⟩⟩

end

/-- The invariant over a point. -/
theorem inv_run (t : Fin cfg0.N) (d : S128x4096.Idx → EReal) (hf1 : M1.view.read (Elt Ideal) f1 = win0_0.fill (grid0.coords t) d (iblk m c 0 t))
    (h : Inv (m ((c.tc : Thread nD τ).loc main_arg0)) t.val (M3.view.read (Elt Ideal) f3) (M4.view.read (Elt Ideal) f4)) :
    Inv (m ((c.tc : Thread nD τ).loc main_arg0)) (t.val + 1) (View.canon (bodyRun.sl.H3_128 c (grid0.coords t) M1 M3 f1 f3))
      (View.canon (bodyRun.sl.H4_128 c (grid0.coords t) M1 M3 M4 f1 f3 f4)) := by
  refine inv_step _ t.val (M3.view.read (Elt Ideal) (start c (grid0.coords t) M3 f3)) _ (M4.view.read (Elt Ideal) f4) _ ?_ (fun e => ?_) (fun e => ?_)
  · by_cases h0 : t.val = 0
    · exact .inl ⟨start_first c M3 f3 _ ((first_iff t).2 h0), h0⟩
    · right
      refine ⟨?_, by omega⟩
      unfold start
      rw [if_neg (mt (first_iff t).1 h0)]
      exact h
  · rw [max_at, coord, hf1, kscore_eq]
  · rw [idx_at, coord, hf1, kscore_eq]

end

variable (m : (ℓ : Loc nD τ sig) → Buf (Elt Ideal) ℓ) (ρ : Dev nD → PrngReg) (G : Dev nD → S128.Idx → BitVec 32)

/-- What the body keeps from point to point: the accumulators at the invariant, the generator's register at something. -/
def kept (c : Dev nD) (n : ℕ) : sProp 𝕄 :=
  iprop((∃ f3 f4, pt c (Memref.whole cc0_scratch0) f3 ∗ pt c (Memref.whole cc0_scratch1) f4
    ∗ ⌜Inv (m ((c.tc : Thread nD τ).loc main_arg0)) n ((Memref.whole cc0_scratch0).view.read (Elt Ideal) f3) ((Memref.whole cc0_scratch1).view.read (Elt Ideal) f4)⌝)
    ∗ ∃ r, prngReg c r)

/-- The region's proof data: the logits' buffer left as fetched, the result's at the answer, the accumulators at the invariant. -/
def vdats (_ : Fin 1) (c : Dev nD) : Dat τ (Elt Ideal) Unit ℕ (UR sig nD τ) ℕ cfg0 c where
  A w := V m c (Pipeline.arrRef spec0 w)
  after w t := match w with
    | ⟨0, _⟩ => xblk m c t
    | ⟨1, _⟩ => fun r => G c (rowIx r)
  Φ t := kept m c t.val
  q _ := fullShare
  owed _ := 0

/-- The answer is what any best place of a row is. -/
def Answers : Prop := ∀ (c : Dev nD) (r : S128x1.Idx) v w, Best (Ref.rscore (m ((c.tc : Thread nD τ).loc main_arg0)) (r 0)) (· < 100000) v w → w = G c (rowIx r)

/-- The logits' buffer as the body finds it. -/
theorem vbefore (c : Dev nD) (t : Fin cfg0.N) (d) :
    (vdats m G 0 c).before (0 : Fin 2) t d = win0_0.fill (grid0.coords t) d (iblk m c 0 t) := by
  unfold Dat.before; rw [if_pos (fetch0_0 t)]; rfl

/-- The body at every point carries the invariant, and leaves the answer at the last. -/
theorem vbody (hG : Answers m G) (c : Dev nD) : BodyObligationLoose (vdats m G 0 c) (defs₀ (F := Ideal)) Variants.none () Set.univ := fun t => by
  rw [bigSep_W0, bigSep_W0]
  have ht : t.val < 25 := t.isLt
  rw [show (vdats m G 0 c).owesAt () t.succ = (vdats m G 0 c).owesAt () t.castSucc from rfl,
    show (vdats m G 0 c).Φ t.succ = kept m c (t.val + 1) from rfl, show (vdats m G 0 c).Φ t.castSucc = kept m c t.val from rfl]
  by_cases h24 : t.val = 24
  · have hi : cfg0.idle 1 (cfg0.grid.coords t) = false := by
      show (!(k0_cond2 (grid0.coords t) == 1#1)) = false
      rw [(last_iff t).2 h24]; rfl
    rw [hi]
    dsimp only
    unfold kept owns
    rw [Memref.IsWhole.set_eq_univ (hstage0_0 (cfg0.slots t 0)), Memref.IsWhole.set_eq_univ (hstage0_1 (cfg0.slots t 1))]
    iintro ⟨⟨⟨%f3, %f4, H3, H4, %hinv⟩, Hg⟩, Howes, ⟨%d0, %f1, %hf1, H1⟩, ⟨%d2, %f2, %hf2, H2⟩⟩
    rw [vbefore m G c t d0] at hf1
    iapply ((bodyRun c (grid0.coords t) (st0_0 t) (hstage0_0 ((cfg0.slots t 0).cast nbuf0_0)) (st0_1 t) (hstage0_1 ((cfg0.slots t 1).cast nbuf0_1))
      (Memref.whole cc0_scratch0) (Memref.isWhole_whole _) (Memref.whole cc0_scratch1) (Memref.isWhole_whole _) f1 f2 f3 f4).2 Set.univ _)
    isplitl [H1]; · iexact H1
    isplitl [H2]; · iexact H2
    isplitl [H3]; · iexact H3
    isplitl [H4]; · iexact H4
    iintro ⟨H1, H2, H3, H4⟩
    have hnew := inv_run c (st0_0 t) (Memref.whole cc0_scratch0) (Memref.whole cc0_scratch1) f1 f3 f4 m t d0 hf1 hinv
    isplitl [H3 H4 Hg]
    · isplitr [Hg]
      · iexists _; iexists _
        isplitl [H3]; · iexact H3
        isplitl [H4]; · iexact H4
        ipureintro
        exact Eq.mpr (congrArg₂ (Inv _ _) (run_max c _ _ _ f1 f3 f4 _ _ _ _ _ _ f2) (run_idx c _ _ _ f1 f3 f4 _ _ _ _ _ _ f2)) hnew
      · iexact Hg
    isplitl [Howes]; · iexact Howes
    isplitl [H1]
    · iexists d0; iexists f1
      isplitr; · ipureintro; exact hf1.trans (congrArg (win0_0.fill (grid0.coords t) d0) (win0_0.cut_fill _ _ _).symm)
      iexact H1
    · iexists _
      isplitr; swap; (· iexact H2)
      ipureintro
      refine (run_last c _ _ _ f1 f3 f4 _ _ _ _ _ _ f2 ((last_iff t).2 h24)).trans (funext fun r => ?_)
      rw [h24] at hnew
      obtain ⟨v, hv⟩ := inv_answer _ _ _ hnew r
      exact hG c r v _ hv
  · have hi : cfg0.idle 1 (cfg0.grid.coords t) = true := by
      show (!(k0_cond2 (grid0.coords t) == 1#1)) = true
      rw [Bool.not_eq_true', beq_eq_false_iff_ne]
      exact mt (last_iff t).1 h24
    have hfl : (cfg0.win 1).flush t = false := by
      rw [← Bool.not_eq_true]
      exact fun h => h24 (by have := (flush0_1 t).1 h; omega)
    rw [hi, hfl]
    dsimp only
    unfold kept owns
    rw [Memref.IsWhole.set_eq_univ (hstage0_0 (cfg0.slots t 0)), Memref.IsWhole.set_eq_univ (hstage0_1 (cfg0.slots t 1))]
    iintro ⟨⟨⟨%f3, %f4, H3, H4, %hinv⟩, Hg⟩, Howes, ⟨%d0, %f1, %hf1, H1⟩, ⟨%d2, %f2, %hf2, H2⟩⟩
    rw [vbefore m G c t d0] at hf1
    iapply ((bodyRun c (grid0.coords t) (st0_0 t) (hstage0_0 ((cfg0.slots t 0).cast nbuf0_0)) (st0_1 t) (hstage0_1 ((cfg0.slots t 1).cast nbuf0_1))
      (Memref.whole cc0_scratch0) (Memref.isWhole_whole _) (Memref.whole cc0_scratch1) (Memref.isWhole_whole _) f1 f2 f3 f4).2 Set.univ _)
    isplitl [H1]; · iexact H1
    isplitl [H2]; · iexact H2
    isplitl [H3]; · iexact H3
    isplitl [H4]; · iexact H4
    iintro ⟨H1, H2, H3, H4⟩
    have hnew := inv_run c (st0_0 t) (Memref.whole cc0_scratch0) (Memref.whole cc0_scratch1) f1 f3 f4 m t d0 hf1 hinv
    isplitl [H3 H4 Hg]
    · isplitr [Hg]
      · iexists _; iexists _
        isplitl [H3]; · iexact H3
        isplitl [H4]; · iexact H4
        ipureintro
        exact Eq.mpr (congrArg₂ (Inv _ _) (run_max c _ _ _ f1 f3 f4 _ _ _ _ _ _ f2) (run_idx c _ _ _ f1 f3 f4 _ _ _ _ _ _ f2)) hnew
      · iexact Hg
    isplitl [Howes]; · iexact Howes
    isplitl [H1]
    · iexists d0; iexists f1
      isplitr; · ipureintro; exact hf1.trans (congrArg (win0_0.fill (grid0.coords t) d0) (win0_0.cut_fill _ _ _).symm)
      iexact H1
    · iexists d2; iexists _
      isplitr; swap; (· iexact H2)
      ipureintro
      exact (congrArg _ (run_idle c _ _ _ f1 f3 f4 _ _ _ _ _ _ f2 (mt (last_iff t).1 h24))).trans hf2

/-- The invariant holds of nothing before the first point. -/
theorem kept_in (c : Dev nD) : Pipeline.ΦA spec0 c ⊢ kept m c 0 := by
  unfold Pipeline.ΦA kept; rw [scopedRest0_eq]
  iintro ⟨⟨⟨%f3, H3⟩, ⟨%f4, H4⟩⟩, Hg⟩
  isplitr [Hg]
  · iexists f3; iexists f4
    isplitl [H3]; · iexact H3
    isplitl [H4]; · iexact H4
    ipureintro
    exact fun h => absurd h (lt_irrefl _)
  · iexact Hg

/-- After the last point the accumulators are forgotten. -/
theorem kept_out (c : Dev nD) (n : ℕ) : kept m c n ⊢ Pipeline.ΦA spec0 c := by
  unfold Pipeline.ΦA kept; rw [scopedRest0_eq]
  iintro ⟨⟨%f3, %f4, H3, H4, -⟩, Hg⟩
  isplitr [Hg]
  · isplitl [H3]; · iexists f3; iexact H3
    iexists f4; iexact H4
  · iexact Hg

/-- The last point. -/
def tLast : Fin cfg0.N := ⟨24, by decide⟩

/-- The result's column after the region. -/
theorem out_arr (c : Dev nD) : (vdats m G 0 c).arrAt 1 cfg0.N = fun r => G c (rowIx r) := by
  refine (vdats m G 0 c).arrAt_eq_of_after_last 1 tLast (by decide +kernel) _ fun j => ?_
  blk_simp
  rfl

/-- The host line after the region reads the column as a vector. -/
theorem host_line (W : Valuation τ sig (Elt Ideal)) (x : S128x1.Idx → BitVec 32)
    (hx : W (Proc.devRef .tc main_call0_v0) = x) :
    StableHlo.after hostOps1 W (Proc.devRef .tc main_v0) = shapeCast S128 x shapeCasts_S128x1_S128 := by
  subst hx
  after_results_simp
  rfl

/-- The column read as a vector. -/
theorem as_vector (g : S128.Idx → BitVec 32) :
    shapeCast S128 (fun r : S128x1.Idx => g (rowIx r)) shapeCasts_S128x1_S128 = g := by
  funext j
  refine (shapeCast_apply (t := S128) (fun r : S128x1.Idx => g (rowIx r)) shapeCasts_S128x1_S128 j
    (ValueIdx.ix2 (j 0) (0 : Fin 1)) (by
      rw [Shape.rowMajor_val_two, Shape.rowMajor_val_one]; simp [ValueIdx.ix2])).trans ?_
  refine congrArg g (funext fun a => ?_)
  match a with
  | 0 => rfl

/-- The result is none of the region's arrays. -/
theorem out_rest : main_v0 ∈ Pipeline.restRefs sig spec0 := by
  decide +kernel

/-- The result's buffer after the host line. -/
theorem tail_v0 (c : Dev nD) :
    Pipeline.afterTail₀ cfgs (vdats m G) 0 (V0 m) [hostOps1] c main_v0 = G c :=
  (host_line _ (fun r => G c (rowIx r))
    ((Pipeline.withArrays_arr spec0 (by decide +kernel) c _ _ 1).trans (out_arr m G c))).trans (as_vector (G c))

set_option backward.isDefEq.respectTransparency.types false in
/-- The kernel's run: the result is the answer, and the logits are unchanged. -/
theorem value_run (hG : Answers m G) : θ_run defs (onTc (τ := τ) (main (F := Ideal))) ⟨m, fun _ => 0, ρ⟩ (fun r => ∀ c : Dev nD,
    r.2.mem ((c.tc : Thread nD τ).loc main_v0) = G c ∧ r.2.mem ((c.tc : Thread nD τ).loc main_arg0) = m ((c.tc : Thread nD τ).loc main_arg0)) :=
  Pipeline.θ_run_frame_around_track cfgs (vdats m G) (0 : Fin 1) launch0 defs₀ Variants.none m ρ main
    (hbody := vbody m G hG) (hshare := fun c => (vdats m G 0 c).share_full fun _ => rfl) (howed := fun _ _ => rfl)
    (V0 m) [hostOps1] (hsub := sfx_sub) (hfresh := sfx_fresh) (hkeep := sfx_keeps)
    (hmain := hmain m Variants.none) (hA := fun _ _ => rfl) (hin := kept_in m) (hout := fun c => kept_out m c _)
    (Q' := _)
    (hQ' := fun r h c => ⟨((h.1 c).2 main_v0 out_rest).trans (tail_v0 m G c), ((h.1 c).1 0).trans (((vdats m G 0 c).arrAt_in 0 rfl _).trans (V_main_arg0 m c))⟩)

end Cert.Proof.Ideal
end
end
-- ==== Proof.Mass.lean ====
/- What the precondition says: every row has a logit above minus infinity. -/
module

public import proofs.«01_k».proof.Pre_row_has_mass
public import proofs.«01_k».proof.Proof.First
public import proofs.«01_k».proof.Proof.Score
public import Idealize.ShloMosaic.PureOps.Reduce

@[expose] public section

noncomputable section

namespace Cert.Proof

open Idealize.ShloMosaic Cert.Pre_row_has_mass

/-- A bit is 0 or 1. -/
theorem bit_cases (a : BitVec 1) : a = 0#1 ∨ a = 1#1 := by
  rcases a with ⟨⟨n, hn⟩⟩
  match n, hn with
  | 0, _ => exact .inl rfl
  | 1, _ => exact .inr rfl

/-- The conjunction of two bits. -/
theorem and_bit (a b : BitVec 1) : (IntOp.andi a b = a ∨ IntOp.andi a b = b) ∧ (IntOp.andi a b = 1#1 → a = 1#1) ∧ (IntOp.andi a b = 1#1 → b = 1#1) := by
  rcases bit_cases a with rfl | rfl <;> rcases bit_cases b with rfl | rfl <;> decide

/-- The disjunction of two bits is one of them. -/
theorem or_bit (a b : BitVec 1) : IntOp.ori a b = a ∨ IntOp.ori a b = b := by
  rcases bit_cases a with rfl | rfl <;> rcases bit_cases b with rfl | rfl <;> decide

variable [Facts]

/-- Every row goes to the one result. -/
theorem drop_all (r : S128.Idx) (j : S_.Idx) : Facts.reducesTo_S128_S_d0.drop r = j := funext fun a => a.elim0

/-- An element belongs to the row its first coordinate names. -/
theorem drop_mass (e : S128x100000.Idx) (r : S128.Idx) : Facts.reducesTo_S128x100000_S128_d1.drop e = r ↔ (e 0).val = (r 0).val := by
  simp [funext_iff, Fin.ext_iff, Fin.forall_fin_one, Facts.reducesTo_S128x100000_S128_d1.drop_apply_val_of_eq e 0 0]

/-- Where the precondition's bit is 1, every row has a logit above minus infinity. -/
theorem row_mass (lg : FVec Ideal S128x100000 .f32) (h : Cert.Pre_row_has_mass.fn (F := Ideal) lg = fun _ => 1#1) (r : S128.Idx) :
    ∃ e : S128x100000.Idx, (e 0).val = (r 0).val ∧ ⊥ < (lg e : EReal) := by
  have h := congrFun h (fun a => a.elim0)
  let above : IVec S128x100000 1 := cmpf .ogt lg (broadcastInDim S128x100000 ![] Facts.bcast_S_S128x100000 (constant S_ .f32 0xFF800000#32))
  let rows : IVec S128 1 := Host.reduce IntOp.ori above (constantI S_ 1 0#1) Facts.reducesTo_S128x100000_S128_d1 Facts.h_S_
  have h1 : Host.reduce IntOp.andi rows (constantI S_ 1 1#1) Facts.reducesTo_S128_S_d0 Facts.h_S_ (fun a => a.elim0) = 1#1 := h
  rw [Host.reduce_eq_fold] at h1
  obtain ⟨-, -, h3⟩ := fold_picks (op := IntOp.andi (w := 1)) (fun a b => a = 1#1 → b = 1#1) (fun _ => id) (fun _ _ _ f g => g ∘ f)
    (fun a b => (and_bit a b).1) (fun a b => (and_bit a b).2.1) (fun a b => (and_bit a b).2.2) (constantI S_ 1 1#1 (Shape.Idx.first Facts.h_S_))
    rows (Finset.univ.filter fun r => Facts.reducesTo_S128_S_d0.drop r = fun a => a.elim0)
  have h4 : rows r = 1#1 := h3 r (Finset.mem_filter.2 ⟨Finset.mem_univ _, drop_all _ _⟩) h1
  have h5 : Host.reduce IntOp.ori above (constantI S_ 1 0#1) Facts.reducesTo_S128x100000_S128_d1 Facts.h_S_ r = 1#1 := h4
  rw [Host.reduce_eq_fold] at h5
  obtain ⟨h6, -, -⟩ := fold_picks (op := IntOp.ori (w := 1)) (fun _ _ => True) (fun _ => trivial) (fun _ _ _ _ _ => trivial)
    or_bit (fun _ _ => trivial) (fun _ _ => trivial) (constantI S_ 1 0#1 (Shape.Idx.first Facts.h_S_))
    above (Finset.univ.filter fun e => Facts.reducesTo_S128x100000_S128_d1.drop e = r)
  rw [h5] at h6
  rcases h6 with h6 | ⟨e, he, h6⟩
  · exact absurd (show (1#1 : BitVec 1) = 0#1 from h6) (by decide)
  · refine ⟨e, (drop_mass e r).1 (Finset.mem_filter.1 he).2, ?_⟩
    have h7 : (1#1 : BitVec 1) = BitVec.ofBool (decide (Ideal.ofBits .f32 0xFF800000#32 < lg e)) := h6
    rw [ofBits_neg_inf] at h7
    by_contra hn
    have h8 : decide ((⊥ : EReal) < lg e) = false := decide_eq_false hn
    rw [h8] at h7
    exact absurd h7 (by decide)

end Cert.Proof
end
end
-- ==== Proof.Algebraic.lean ====
/- The kernel's answer is the reference's, over the ideal numbers, when every row has a logit above minus infinity. -/
module

public import proofs.«01_k».proof.Defs
public import proofs.«01_k».proof.Proof.ValueIdeal
public import proofs.«01_k».proof.Proof.RefScore
public import proofs.«01_k».proof.Proof.RefValue
public import proofs.«01_k».proof.Proof.Mass
public import proofs.«01_k».proof.Proof.Score

@[expose] public section

noncomputable section

namespace Cert.Proof

open Idealize.ShloMosaic Idealize.ShloMosaic.StableHlo Idealize.SL.Sem

section
variable [Cert.Pre_row_has_mass.Facts]

/-- In a row with mass, the first greatest column is one column: two answers to the same row agree. -/
theorem same_answer (lg : FVec Ideal Cert.KernelIdeal.S128x100000 .f32)
    (h : Cert.Pre_row_has_mass.fn (F := Ideal) lg = fun _ => 1#1) (r : Fin 128) {v v' : EReal} {w w' : BitVec 32}
    (hb : Best (Ref.rscore lg r) (· < 100000) v w) (hb' : Best (Ref.rscore lg r) (· < 100000) v' w') : w = w' := by
  obtain ⟨e, he, hm⟩ := row_mass lg h (ValueIdx.ix1 r)
  have hlt : (e 1).val < 100000 := (e 1).isLt
  have hpos : ⊥ < Ref.rscore lg r (e 1).val := by
    unfold Ref.rscore
    rw [dif_pos hlt]
    refine score_pos _ (lt_of_lt_of_eq hm (congrArg lg (funext fun a => ?_)))
    match a with
    | 0 => exact Fin.ext he
    | 1 => rfl
  exact hb.unique hb' (hpos.trans_le (hb.le _ hlt)) (hpos.trans_le (hb'.le _ hlt))

/-- The kernel's indices are the reference's, over the ideal numbers, when every row has a logit above minus infinity. -/
theorem algebraic : Cert.algebraic_KernelIdeal_ReferenceIdeal_pre_row_has_mass := by
  intro m g m' g' hpre harg
  have hans : Ideal.Answers m (fun c => (after (Ref.mainOps c) (launchContents m' c) (Proc.devRef .tc Cert.ReferenceIdeal.main_v42) : Cert.KernelIdeal.S128.Idx → BitVec 32)) := by
    intro c r v w hb
    obtain ⟨v', hb'⟩ := Ref.answer c (launchContents m' c) (m ((c.tc : Thread _ _).loc Cert.KernelIdeal.main_arg0)) _ (harg c) rfl (Ideal.rowIx r)
    exact same_answer _ (hpre c) (r 0) hb hb'
  exact ⟨_, Ideal.value_run m g _ hans, θ_run_mono (Ref.run m' g') fun r h c =>
    ⟨h c Cert.ReferenceIdeal.main_v42, (h c Cert.ReferenceIdeal.main_arg0).trans (Ref.main_arg0_kept c (launchContents m' c))⟩⟩

end

end Cert.Proof
end
-- ==== Proof.lean ====
/- The certificate: the kernel, its idealization and the reference run to their end, the idealization is the kernel's own
   text, and over the ideal numbers the kernel's answer is the reference's. The frames are proved in Proof/FrameMachine,
   Proof/FrameIdeal and Proof/RefValue, the equality in Proof/Algebraic. -/
module

public import proofs.«01_k».proof.Defs
public import proofs.«01_k».proof.Proof.FrameMachine
public import proofs.«01_k».proof.Proof.FrameIdeal
public import proofs.«01_k».proof.Proof.RefValue
public import proofs.«01_k».proof.Proof.Algebraic
public import proofs.«01_k».proof.Proof.Gen.Pre_row_has_mass

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_row_has_mass.Gen.facts,
    fun m g _ => Machine.frame_run m g, fun m g _ => Ideal.frame_run m g, fun m g _ => Ideal.frame_run m g,
    fun m g _ => Ref.frame_run m g, fun m g _ => Ref.frame_run m g, trivial, algebraic⟩

end Cert.Proof

end
